-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Gather [hPre_in_rows : Cert.Pre_in_rows.Facts] (m : (ℓ : Loc Cert.Gather.nD Cert.Gather.τ Cert.Gather.sig) → Buf (Elt Bits) ℓ) : Prop :=
  ∀ c : Dev Cert.Gather.nD,
    (Cert.Pre_in_rows.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_in_rows : Cert.Pre_in_rows.Facts] (m : (ℓ : Loc Cert.GatherIdeal.nD Cert.GatherIdeal.τ Cert.GatherIdeal.sig) → Buf (Elt Ideal) ℓ) : Prop :=
  ∀ c : Dev Cert.GatherIdeal.nD,
    (Cert.Pre_in_rows.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_GatherReferenceIdeal (m : (ℓ : Loc Cert.GatherReferenceIdeal.nD Cert.GatherReferenceIdeal.τ Cert.GatherReferenceIdeal.sig) → Buf (Elt Ideal) ℓ) : Prop :=
  True

def Pre_GatherReferenceIdeal_in_rows [hPre_in_rows : Cert.Pre_in_rows.Facts] (m : (ℓ : Loc Cert.GatherReferenceIdeal.nD Cert.GatherReferenceIdeal.τ Cert.GatherReferenceIdeal.sig) → Buf (Elt Ideal) ℓ) : Prop :=
  ∀ c : Dev Cert.GatherReferenceIdeal.nD,
    (Cert.Pre_in_rows.fn (F := Ideal) (m ((c.tc : Thread Cert.GatherReferenceIdeal.nD Cert.GatherReferenceIdeal.τ).loc Cert.GatherReferenceIdeal.main_arg0)) (m ((c.tc : Thread Cert.GatherReferenceIdeal.nD Cert.GatherReferenceIdeal.τ).loc Cert.GatherReferenceIdeal.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Gather [hGather : Cert.Gather.Facts] [hPre_in_rows : Cert.Pre_in_rows.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_in_rows : Cert.Pre_in_rows.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def quiescent_GatherReferenceIdeal_pre_in_rows [hGatherReferenceIdeal : Cert.GatherReferenceIdeal.Facts] [hPre_in_rows : Cert.Pre_in_rows.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal_in_rows m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v6_0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v6_0) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_v16) = v3 c
          ∧ r.2.mem ((c.tc : Thread Cert.ReferenceIdeal.nD Cert.ReferenceIdeal.τ).loc Cert.ReferenceIdeal.main_v15) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Gather_GatherIdeal : Prop :=
  True

def algebraic_GatherIdeal_GatherReferenceIdeal [hGatherIdeal : Cert.GatherIdeal.Facts] [hGatherReferenceIdeal : Cert.GatherReferenceIdeal.Facts] [hPre_in_rows : Cert.Pre_in_rows.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m' ((c.tc : Thread Cert.GatherReferenceIdeal.nD Cert.GatherReferenceIdeal.τ).loc Cert.GatherReferenceIdeal.main_arg0) = m ((c.tc : Thread Cert.GatherIdeal.nD Cert.GatherIdeal.τ).loc Cert.GatherIdeal.main_arg0)
      ∧ m' ((c.tc : Thread Cert.GatherReferenceIdeal.nD Cert.GatherReferenceIdeal.τ).loc Cert.GatherReferenceIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v2)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v2) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherReferenceIdeal.defs (F := Ideal)) (onTc (τ := Cert.GatherReferenceIdeal.τ) (Cert.GatherReferenceIdeal.main (F := Ideal))) ⟨m', fun _ => 0, g'⟩ (fun r => ∀ c : Dev Cert.GatherReferenceIdeal.nD,
          r.2.mem ((c.tc : Thread Cert.GatherReferenceIdeal.nD Cert.GatherReferenceIdeal.τ).loc Cert.GatherReferenceIdeal.main_v1) = v0 c
          ∧ r.2.mem ((c.tc : Thread Cert.GatherReferenceIdeal.nD Cert.GatherReferenceIdeal.τ).loc Cert.GatherReferenceIdeal.main_arg0) = m' ((c.tc : Thread Cert.GatherReferenceIdeal.nD Cert.GatherReferenceIdeal.τ).loc Cert.GatherReferenceIdeal.main_arg0)
          ∧ r.2.mem ((c.tc : Thread Cert.GatherReferenceIdeal.nD Cert.GatherReferenceIdeal.τ).loc Cert.GatherReferenceIdeal.main_arg1) = m' ((c.tc : Thread Cert.GatherReferenceIdeal.nD Cert.GatherReferenceIdeal.τ).loc Cert.GatherReferenceIdeal.main_arg1))

def Claim : Prop :=
  ∃ (hKernelIdeal : Cert.KernelIdeal.Facts) (hReferenceIdeal : Cert.ReferenceIdeal.Facts) (hGather : Cert.Gather.Facts) (hGatherIdeal : Cert.GatherIdeal.Facts) (hGatherReferenceIdeal : Cert.GatherReferenceIdeal.Facts) (hPre_finite : Cert.Pre_finite.Facts) (hPre_in_rows : Cert.Pre_in_rows.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gather (hGather := hGather) (hPre_in_rows := hPre_in_rows)
    ∧ quiescent_GatherIdeal (hGatherIdeal := hGatherIdeal) (hPre_in_rows := hPre_in_rows)
    ∧ quiescent_GatherReferenceIdeal (hGatherReferenceIdeal := hGatherReferenceIdeal)
    ∧ quiescent_GatherReferenceIdeal_pre_in_rows (hGatherReferenceIdeal := hGatherReferenceIdeal) (hPre_in_rows := hPre_in_rows)
    ∧ algebraic_KernelIdeal_ReferenceIdeal_pre_finite (hKernelIdeal := hKernelIdeal) (hReferenceIdeal := hReferenceIdeal) (hPre_finite := hPre_finite)
    ∧ preserves_Gather_GatherIdeal
    ∧ algebraic_GatherIdeal_GatherReferenceIdeal (hGatherIdeal := hGatherIdeal) (hGatherReferenceIdeal := hGatherReferenceIdeal) (hPre_in_rows := hPre_in_rows)
-- ==== Pre_finite.lean ====
abbrev S8x32x32x32 : Shape := ⟨4, ![8, 32, 32, 32]⟩
abbrev S8192x32 : Shape := ⟨2, ![8192, 32]⟩
abbrev S_ : Shape := ⟨0, ![]⟩

class Facts : Prop where
  bcast_S_S8x32x32x32 : S_.BroadcastsInDim S8x32x32x32 (![] : Fin 0 → Fin S8x32x32x32.rank)
  reducesTo_S8x32x32x32_S_d0_1_2_3 : S8x32x32x32.ReducesTo [0, 1, 2, 3] S_
  h_S_ : 0 < S_.numel
  bcast_S_S8192x32 : S_.BroadcastsInDim S8192x32 (![] : Fin 0 → Fin S8192x32.rank)
  reducesTo_S8192x32_S_d0_1 : S8192x32.ReducesTo [0, 1] S_

variable [Facts]

def fn {F : FTy → Type} [FloatOps F] (main_arg0 : FVec F S8x32x32x32 .f32) (main_arg1 : FVec F S8192x32 .f32) : IVec S_ 1 :=
  let main_v0 : FVec F S8x32x32x32 .f32 := Host.absf main_arg0
  let main_cst : FVec F S_ .f32 := constant S_ .f32 0x7F800000#32
  let main_v1 : FVec F S8x32x32x32 .f32 := broadcastInDim S8x32x32x32 ![] bcast_S_S8x32x32x32 main_cst
  let main_v2 : IVec S8x32x32x32 1 := cmpf .olt main_v0 main_v1
  let main_c : IVec S_ 1 := constantI S_ 1 1#1
  let main_v3 : IVec S_ 1 := (fun x v => Host.reduce IntOp.andi x v reducesTo_S8x32x32x32_S_d0_1_2_3 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  main_v8
-- ==== Pre_in_rows.lean ====
abbrev S8192 : Shape := ⟨1, ![8192]⟩
abbrev S8192x32 : Shape := ⟨2, ![8192, 32]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : IVec S8192 32) (main_arg1 : FVec F S8192x32 .f32) : IVec S_ 1 :=
  let main_c : IVec S_ 32 := constantI S_ 32 0#32
  let main_v0 : IVec S8192 32 := broadcastInDim S8192 ![] bcast_S_S8192 main_c
  let main_v1 : IVec S8192 1 := cmpi .sge main_arg0 main_v0
  let main_c_0 : IVec S_ 32 := constantI S_ 32 8192#32
  let main_v2 : IVec S8192 32 := broadcastInDim S8192 ![] bcast_S_S8192 main_c_0
  let main_v3 : IVec S8192 1 := cmpi .slt main_arg0 main_v2
  let main_v4 : IVec S8192 1 := andi main_v1 main_v3
  let main_c_1 : IVec S_ 1 := constantI S_ 1 1#1
  let main_v5 : IVec S_ 1 := (fun x v => Host.reduce IntOp.andi x v reducesTo_S8192_S_d0 h_S_) main_v4 main_c_1
  main_v5
-- ==== KernelIdeal.lean ====
abbrev S8x32x32x32 : Shape := ⟨4, ![8, 32, 32, 32]⟩
abbrev S8192x32 : Shape := ⟨2, ![8192, 32]⟩
abbrev S_ : Shape := ⟨0, ![]⟩
abbrev S8x32x32 : Shape := ⟨3, ![8, 32, 32]⟩
abbrev S8192x1 : Shape := ⟨2, ![8192, 1]⟩
abbrev S8192 : Shape := ⟨1, ![8192]⟩
abbrev S1x8192 : Shape := ⟨2, ![1, 8192]⟩
abbrev S8192x8192 : Shape := ⟨2, ![8192, 8192]⟩
abbrev S16x1x512 : Shape := ⟨3, ![16, 1, 512]⟩
abbrev S1x1 : Shape := ⟨2, ![1, 1]⟩
abbrev S1x32x16x32 : Shape := ⟨4, ![1, 32, 16, 32]⟩
abbrev S512x1 : Shape := ⟨2, ![512, 1]⟩
abbrev S512x8192 : Shape := ⟨2, ![512, 8192]⟩
abbrev S1x1x512 : Shape := ⟨3, ![1, 1, 512]⟩
abbrev S32x512 : Shape := ⟨2, ![32, 512]⟩
abbrev S512x32 : Shape := ⟨2, ![512, 32]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩
abbrev S1x1x8192 : Shape := ⟨3, ![1, 1, 8192]⟩
abbrev S8192x128 : Shape := ⟨2, ![8192, 128]⟩
abbrev S256 : Shape := ⟨1, ![256]⟩
abbrev S256x128 : Shape := ⟨2, ![256, 128]⟩

abbrev nBuf : Table → Nat
  | .hbm => 24
  | .local .tc .vmem => 13
  | .local .tc .smem => 1
  | .local .scVector .vmem => 2
  | _ => 0

abbrev bufTy : (tb : Table) → Fin (nBuf tb) → BufTy
  | .hbm, ⟨0, _⟩ => ⟨S8x32x32x32, .f32⟩
  | .hbm, ⟨1, _⟩ => ⟨S8192x32, .f32⟩
  | .hbm, ⟨2, _⟩ => ⟨S8x32x32x32, .f32⟩
  | .hbm, ⟨3, _⟩ => ⟨S_, .f32⟩
  | .hbm, ⟨4, _⟩ => ⟨S8x32x32, .f32⟩
  | .hbm, ⟨5, _⟩ => ⟨S8192x1, .f32⟩
  | .hbm, ⟨6, _⟩ => ⟨S8192x32, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x8192, .f32⟩
  | .hbm, ⟨11, _⟩ => ⟨S16x1x512, .i32⟩
  | .hbm, ⟨12, _⟩ => ⟨S1x1, .f32⟩
  | .hbm, ⟨13, _⟩ => ⟨S1x1, .f32⟩
  | .hbm, ⟨14, _⟩ => ⟨S8192, .i32⟩
  | .hbm, ⟨15, _⟩ => ⟨S_, .i32⟩
  | .hbm, ⟨16, _⟩ => ⟨S_, .f32⟩
  | .hbm, ⟨17, _⟩ => ⟨S8192x128, .f32⟩
  | .hbm, ⟨18, _⟩ => ⟨S8192x128, .f32⟩
  | .hbm, ⟨19, _⟩ => ⟨S8192x32, .f32⟩
  | .hbm, ⟨20, _⟩ => ⟨S8x32x32x32, .f32⟩
  | .hbm, ⟨21, _⟩ => ⟨S8x32x32x32, .f32⟩
  | .hbm, ⟨22, _⟩ => ⟨S_, .f32⟩
  | .hbm, ⟨23, _⟩ => ⟨S_, .f32⟩
  | .local .tc .vmem, ⟨0, _⟩ => ⟨S1x32x16x32, .f32⟩
  | .local .tc .vmem, ⟨1, _⟩ => ⟨S1x32x16x32, .f32⟩
  | .local .tc .vmem, ⟨2, _⟩ => ⟨S8192x32, .f32⟩
  | .local .tc .vmem, ⟨3, _⟩ => ⟨S512x1, .f32⟩
  | .local .tc .vmem, ⟨4, _⟩ => ⟨S512x1, .f32⟩
  | .local .tc .vmem, ⟨5, _⟩ => ⟨S1x8192, .f32⟩
  | .local .tc .vmem, ⟨6, _⟩ => ⟨S512x8192, .f32⟩
  | .local .tc .vmem, ⟨7, _⟩ => ⟨S512x8192, .f32⟩
  | .local .tc .vmem, ⟨8, _⟩ => ⟨S1x1x512, .i32⟩
  | .local .tc .vmem, ⟨9, _⟩ => ⟨S1x1x512, .i32⟩
  | .local .tc .vmem, ⟨10, _⟩ => ⟨S1x1, .f32⟩
  | .local .tc .vmem, ⟨11, _⟩ => ⟨S1x1, .f32⟩
  | .local .tc .vmem, ⟨12, _⟩ => ⟨S1x8192, .f32⟩
  | .local .tc .smem, ⟨0, _⟩ => ⟨S1x1, .f32⟩
  | .local .scVector .vmem, ⟨0, _⟩ => ⟨S256, .i32⟩
  | .local .scVector .vmem, ⟨1, _⟩ => ⟨S256x128, .f32⟩
  | _, _ => ⟨S8x32x32x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v7_scv : Ref sig .scVector := ⟨.hbm, 14, rfl⟩
abbrev main_v8_scv : Ref sig .scVector := ⟨.hbm, 17, rfl⟩
abbrev main_v9_scv : Ref sig .scVector := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.smem, 0, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v49 : BitVec 1 := Scalar.cmpi .eq arg0 c15_i32
  let v50 : BitVec 32 := Scalar.extui v49
  let c0_i32_28 : BitVec 32 := 0#32
  let v51 : BitVec 1 := Scalar.cmpi .ne v50 c0_i32_28
  v51

def cc0_transform_0 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x32x16x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x32x32x32 : Shape := ⟨4, ![8, 32, 32, 32]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S32x8192 : Shape := ⟨2, ![32, 8192]⟩

abbrev nBuf : Space → Nat
  | .hbm => 66
  | .vmem => 0
  | .smem => 0
  | _ => 0

abbrev bufTy : (tb : Table) → Fin (tcTables nBuf tb) → BufTy
  | .hbm, ⟨0, _⟩ => ⟨S8x32x32x32, .f32⟩
  | .hbm, ⟨1, _⟩ => ⟨S8192x32, .f32⟩
  | .hbm, ⟨2, _⟩ => ⟨S8x32x32x32, .f32⟩
  | .hbm, ⟨3, _⟩ => ⟨S8192x32, .f32⟩
  | .hbm, ⟨4, _⟩ => ⟨S8192x32, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x32, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S32x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x8192, .i32⟩
  | .hbm, ⟨22, _⟩ => ⟨S_, .f32⟩
  | .hbm, ⟨23, _⟩ => ⟨S_, .i32⟩
  | .hbm, ⟨24, _⟩ => ⟨S8192, .f32⟩
  | .hbm, ⟨25, _⟩ => ⟨S8192, .i32⟩
  | .hbm, ⟨26, _⟩ => ⟨S8192x1, .i32⟩
  | .hbm, ⟨27, _⟩ => ⟨S1x8192, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S8192x8192, .f32⟩
  | .hbm, ⟨32, _⟩ => ⟨S8192x32, .f32⟩
  | .hbm, ⟨33, _⟩ => ⟨S8x32x32x32, .f32⟩
  | .hbm, ⟨34, _⟩ => ⟨S8x32x32x32, .f32⟩
  | .hbm, ⟨35, _⟩ => ⟨S8x32x32x32, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8x32x32x32, .f32⟩
  | .hbm, ⟨41, _⟩ => ⟨S8x32x32x32, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S8x32x32x32, .f32⟩
  | .hbm, ⟨50, _⟩ => ⟨S8x32x32x32, .f32⟩
  | .hbm, ⟨51, _⟩ => ⟨S8x32x32x32, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S8192, .f32⟩
  | .hbm, ⟨61, _⟩ => ⟨S8192, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S8x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]
-- ==== Gather.lean ====
abbrev S8192 : Shape := ⟨1, ![8192]⟩
abbrev S8192x32 : Shape := ⟨2, ![8192, 32]⟩
abbrev S_ : Shape := ⟨0, ![]⟩
abbrev S8192x128 : Shape := ⟨2, ![8192, 128]⟩
abbrev S256 : Shape := ⟨1, ![256]⟩
abbrev S256x128 : Shape := ⟨2, ![256, 128]⟩

abbrev nBuf : Table → Nat
  | .hbm => 7
  | .local .scVector .vmem => 2
  | _ => 0

abbrev bufTy : (tb : Table) → Fin (nBuf tb) → BufTy
  | .hbm, ⟨0, _⟩ => ⟨S8192, .i32⟩
  | .hbm, ⟨1, _⟩ => ⟨S8192x32, .f32⟩
  | .hbm, ⟨2, _⟩ => ⟨S_, .i32⟩
  | .hbm, ⟨3, _⟩ => ⟨S_, .f32⟩
  | .hbm, ⟨4, _⟩ => ⟨S8192x128, .f32⟩
  | .hbm, ⟨5, _⟩ => ⟨S8192x128, .f32⟩
  | .hbm, ⟨6, _⟩ => ⟨S8192x32, .f32⟩
  | .local .scVector .vmem, ⟨0, _⟩ => ⟨S256, .i32⟩
  | .local .scVector .vmem, ⟨1, _⟩ => ⟨S256x128, .f32⟩
  | _, _ => ⟨S8192, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_arg0_scv : Ref sig .scVector := ⟨.hbm, 0, rfl⟩
abbrev main_v0_scv : Ref sig .scVector := ⟨.hbm, 4, rfl⟩
abbrev main_v1_scv : Ref sig .scVector := ⟨.hbm, 5, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherReferenceIdeal.lean ====
abbrev S8192 : Shape := ⟨1, ![8192]⟩
abbrev S8192x32 : Shape := ⟨2, ![8192, 32]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 9
  | .vmem => 0
  | .smem => 0
  | _ => 0

abbrev bufTy : (tb : Table) → Fin (tcTables nBuf tb) → BufTy
  | .hbm, ⟨0, _⟩ => ⟨S8192, .i32⟩
  | .hbm, ⟨1, _⟩ => ⟨S8192x32, .f32⟩
  | .hbm, ⟨2, _⟩ => ⟨S8192x1, .i32⟩
  | .hbm, ⟨3, _⟩ => ⟨S1x8192, .i32⟩
  | .hbm, ⟨4, _⟩ => ⟨S8192x8192, .i32⟩
  | .hbm, ⟨5, _⟩ => ⟨S8192x8192, .i32⟩
  | .hbm, ⟨6, _⟩ => ⟨S8192x8192, .i1⟩
  | .hbm, ⟨7, _⟩ => ⟨S8192x8192, .f32⟩
  | .hbm, ⟨8, _⟩ => ⟨S8192x32, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_v1 : Ref sig .tc := ⟨.hbm, 8, rfl⟩

abbrev nD : Nat := 1
abbrev τ : Topo := Topo.v7x

variable {F : FTy → Type} [FloatOps F]
-- ==== Proof.Base.lean ====
/-
  The whole kernel as the launch theorem sees it: the labels, the body table, the variants, the resource algebra (the
  SparseCore handshakes, the TensorCore region's staging rounds, the transfers' counters), and the splitting of a
  points-to into 32 equal shares.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.VQ

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The SparseCore handshakes. -/
abbrev UH : Type := URounds (GSem nD τ sig) ℕ
/-- The TensorCore region's staging rounds. -/
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-- The region's rounds, inside the second component. -/
abbrev EP : Emb UP (MT nD τ sig (HIx 1) (Elt F) ℕ UU ℕ) :=
  ((Emb.inl : Emb UP (UP × Counters)).trans (Emb.inr : Emb (UP × Counters) UU)).trans
    (uEmb (nD := nD) (τ := τ) (sig := sig) (Ix := HIx 1) (Val := Elt F) (Name := ℕ) (U := UU) (Lvl := ℕ)).toEmb

/-! ## The 32 tasks and the 32 shares -/

/-- Task `w`'s share of an array all 32 tasks read: one of 32 pieces of the full share. -/
abbrev shr (w : Fin 32) : PosShare TreeShare := pieceOf (fullShare : PosShare TreeShare) 32 (Nat.succ_pos 31) w

theorem pointsTo_shr {ℓ : Loc nD τ sig} (f : Buf (Elt F) ℓ) :
    (ℓ ↦{fullShare} f : sProp 𝕄) = bigSep Finset.univ fun w : Fin 32 => ℓ ↦{shr w} f :=
  pointsTo_piecesOf Finset.univ f (Nat.succ_pos 31) fullShare

/-- The task of subcore `i` of SparseCore `c`: number `2 i + c`. -/
def taskEquiv : Fin 2 × Fin 16 ≃ Fin 32 := (Equiv.prodComm _ _).trans (finProdFinEquiv (m := 16) (n := 2))

theorem taskEquiv_val (c : Fin 2) (i : Fin 16) : (taskEquiv (c, i)).val = 2 * i.val + c.val := by
  simp [taskEquiv, finProdFinEquiv]; omega

/-- A product over the 32 tasks, by SparseCore and subcore. -/
theorem bigSep_tasks (Φ : Fin 32 → sProp 𝕄) :
    bigSep Finset.univ Φ = bigSep Finset.univ fun c : Fin 2 => bigSep Finset.univ fun i : Fin 16 => Φ (taskEquiv (c, i)) := by
  rw [bigSep_univ_equiv taskEquiv Φ, ← Finset.univ_product_univ]
  exact SparseCore.bigSep_product _ _ _

end Cert.Proof.VQ

end
-- ==== Proof.Body.lean ====
/-
  The TensorCore kernel's body at the three kinds of grid point: the first (which clears the two accumulators), a middle
  one, and the last (which also writes the loss and the perplexity).  Each is stated with the values it leaves, as
  functions of the four blocks it reads and of the accumulators it finds.
-/
module

public import proofs.«01_k».proof.Proof.Base
public import Idealize.ShloMosaic.Lib.VecWindow
public import Idealize.ShloMosaic.Lib.Pipeline.FrameBody
public import Idealize.ShloMosaic.Lib.Pipeline.ValueKit
public import Idealize.ShloMosaic.Lib.WordCmp

@[expose] public section

set_option maxRecDepth 16384

noncomputable section

namespace Cert.Proof.VQ

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.TcCoe

variable {F : FTy → Type} [FloatOps F]

local notation "𝕄" => MT nD τ sig (HIx 1) (Elt F) ℕ UU ℕ

/-- The first point clears the accumulators, -/
abbrev condFirst (i : grid0.Coords) : Prop :=
  (Scalar.cmpi .ne (Scalar.extui (Scalar.cmpi .eq (BitVec.ofNat 32 (i 0).val) 0#32)) 0#32) = 1#1
theorem condFirst_iff : ∀ t : Fin cfg0.N, condFirst (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [condFirst, e0]
    word_cmp
   : ∀ t : Fin grid0.N, condFirst (grid0.coords t) ↔ t.val % 16 = 0)

/-- and the last one writes the two scalars. -/
abbrev condLast (i : grid0.Coords) : Prop := k0_cond2 i = 1#1
theorem condLast_iff : ∀ t : Fin cfg0.N, condLast (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [condLast, k0_cond2, e0]
    word_cmp
   : ∀ t : Fin grid0.N, condLast (grid0.coords t) ↔ t.val % 16 = 15)

/-- A store of a view's own sizes, under any earlier stores, leaves the value stored. -/
theorem read_writes_to {sig : RefSig} {κ : Kind} {sp : Space} {s : Shape} {e : EltTy} {Val : EltTy → Type} (v : View sig κ sp s e)
    (f : v.ty.Contents Val) {off : Fin s.rank → ℕ} (inb : ∀ a, off a + s.size a ≤ s.size a) (w w' : s.Idx → Val e)
    (L : List (View.Piece Val s e)) (h : w = w') :
    v.read Val (v.writes Val f (⟨Rect.unit off s.size inb, w⟩ :: L)) = w' := by
  subst h; exact View.read_writes_full v f inb w L

/-- What one point does to the codeword counts, -/
def countStep (x0 : Vec F S1x32x16x32 .f32) (x1 : Vec F S8192x32 .f32) (x2 : Vec F S512x1 .f32) (x3 : Vec F S1x8192 .f32)
    (a : Vec F S1x8192 .f32) : Vec F S1x8192 .f32 := k0_pay2 (k0_pay10 x0 x1 x2 x3) a
/-- and to the running sum of the row minima. -/
def lossStep (x0 : Vec F S1x32x16x32 .f32) (x1 : Vec F S8192x32 .f32) (x2 : Vec F S512x1 .f32) (x3 : Vec F S1x8192 .f32)
    (s : F .f32) : F .f32 := k0_pay3 (k0_pay7 x0 x1 x2 x3) s

set_option maxHeartbeats 1000000 in
/-- The body at the first point: whatever the accumulators held, they are cleared and the point added. -/
theorem body_first (c : Dev nD) (i : grid0.Coords) (arg1 : Memref sig .tc .vmem S1x32x16x32 .f32) (harg1 : arg1.IsWhole)
    (arg2 : Memref sig .tc .vmem S8192x32 .f32) (harg2 : arg2.IsWhole) (arg3 : Memref sig .tc .vmem S512x1 .f32) (harg3 : arg3.IsWhole)
    (arg4 : Memref sig .tc .vmem S1x8192 .f32) (harg4 : arg4.IsWhole) (arg5 : Memref sig .tc .vmem S512x8192 .f32) (harg5 : arg5.IsWhole)
    (arg6 : Memref sig .tc .vmem S1x1x512 .i32) (harg6 : arg6.IsWhole) (arg7 : Memref sig .tc .vmem S1x1 .f32) (harg7 : arg7.IsWhole)
    (arg8 : Memref sig .tc .vmem S1x1 .f32) (harg8 : arg8.IsWhole) (arg9 : Memref sig .tc .vmem S1x8192 .f32) (harg9 : arg9.IsWhole)
    (arg10 : Memref sig .tc .smem S1x1 .f32) (harg10 : arg10.IsWhole)
    (hc0 : condFirst i) (hc1 : ¬condLast i)
    (x0 : Vec F S1x32x16x32 .f32) (x1 : Vec F S8192x32 .f32) (x2 : Vec F S512x1 .f32) (x3 : Vec F S1x8192 .f32)
    (x6 x7 : Vec F S1x1 .f32) (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay6 x0 x1 x2 x3) ∗ owns (c : Thread nD τ) arg6 fullShare (k0_pay9 x0 x1 x2 x3) ∗ owns (c : Thread nD τ) arg7 fullShare x6 ∗ owns (c : Thread nD τ) arg8 fullShare x7 ∗ owns (c : Thread nD τ) arg9 fullShare (countStep x0 x1 x2 x3 k0_pay1) ∗ owns (c : Thread nD τ) arg10 fullShare (fun _ => (lossStep x0 x1 x2 x3 (Scalar.ofBits .f32 0x00000000#32)))) -∗ Q ⟨⟩))
      ⊢ wp frame (wpE (defs₀ (F := F)) 𝒱₀ c none) E
          (cc0__vq_kernel i arg1 harg1 arg2 harg2 arg3 harg3 arg4 harg4 arg5 harg5 arg6 harg6 arg7 harg7 arg8 harg8 arg9 harg9 arg10 harg10) Q := by
  simp only [cc0__vq_kernel_eq_skeleton]; unfold cc0__vq_kernel_skel
  simp only [k0_part1_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%d9, %f9, -, H9⟩, ⟨%d10, %f10, -, H10⟩, Hk⟩
  obtain rfl := harg1.eq_unread hf1; obtain rfl := harg2.eq_unread hf2; obtain rfl := harg3.eq_unread hf3; obtain rfl := harg4.eq_unread hf4; obtain rfl := harg7.eq_unread hf7; obtain rfl := harg8.eq_unread hf8
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine read_writes_to _ _ _ _ _ _ ?_
    (try sl_unfold_words)
    (try unfold countStep); (try unfold lossStep)
    (try simp (disch := decide) only [View.readAt_eq_ld, View.ld_unit_lit', View.readCov_unit_lit', View.readCov_cons_unit_lit', harg1.read_unread, harg2.read_unread, harg3.read_unread, harg4.read_unread, harg9.read_unread, harg10.read_unread])
    all_goals rfl
  isplitl [H6]
  · iexists _; isplitr
    swap; · iexact H6
    ipureintro
    refine read_writes_to _ _ _ _ _ _ ?_
    (try sl_unfold_words)
    (try unfold countStep); (try unfold lossStep)
    (try simp (disch := decide) only [View.readAt_eq_ld, View.ld_unit_lit', View.readCov_unit_lit', View.readCov_cons_unit_lit', harg1.read_unread, harg2.read_unread, harg3.read_unread, harg4.read_unread, harg9.read_unread, harg10.read_unread])
    all_goals rfl
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    refine read_writes_to _ _ _ _ _ _ ?_
    (try sl_unfold_words)
    (try unfold countStep); (try unfold lossStep)
    (try simp (disch := decide) only [View.readAt_eq_ld, View.ld_unit_lit', View.readCov_unit_lit', View.readCov_cons_unit_lit', harg1.read_unread, harg2.read_unread, harg3.read_unread, harg4.read_unread, harg9.read_unread, harg10.read_unread])
    all_goals rfl
  iexists _; isplitr
  swap; · iexact H10
  ipureintro
  refine read_writes_to _ _ _ _ _ _ ?_
  (try sl_unfold_words)
  (try unfold countStep); (try unfold lossStep)
  (try simp (disch := decide) only [View.readAt_eq_ld, View.ld_unit_lit', View.readCov_unit_lit', View.readCov_cons_unit_lit', harg1.read_unread, harg2.read_unread, harg3.read_unread, harg4.read_unread, harg9.read_unread, harg10.read_unread])
  all_goals rfl

set_option maxHeartbeats 1000000 in
/-- The body at a middle point: the accumulators move on, the two scalar outputs are untouched. -/
theorem body_mid (c : Dev nD) (i : grid0.Coords) (arg1 : Memref sig .tc .vmem S1x32x16x32 .f32) (harg1 : arg1.IsWhole)
    (arg2 : Memref sig .tc .vmem S8192x32 .f32) (harg2 : arg2.IsWhole) (arg3 : Memref sig .tc .vmem S512x1 .f32) (harg3 : arg3.IsWhole)
    (arg4 : Memref sig .tc .vmem S1x8192 .f32) (harg4 : arg4.IsWhole) (arg5 : Memref sig .tc .vmem S512x8192 .f32) (harg5 : arg5.IsWhole)
    (arg6 : Memref sig .tc .vmem S1x1x512 .i32) (harg6 : arg6.IsWhole) (arg7 : Memref sig .tc .vmem S1x1 .f32) (harg7 : arg7.IsWhole)
    (arg8 : Memref sig .tc .vmem S1x1 .f32) (harg8 : arg8.IsWhole) (arg9 : Memref sig .tc .vmem S1x8192 .f32) (harg9 : arg9.IsWhole)
    (arg10 : Memref sig .tc .smem S1x1 .f32) (harg10 : arg10.IsWhole)
    (hc0 : ¬condFirst i) (hc1 : ¬condLast i)
    (x0 : Vec F S1x32x16x32 .f32) (x1 : Vec F S8192x32 .f32) (x2 : Vec F S512x1 .f32) (x3 : Vec F S1x8192 .f32)
    (x6 x7 : Vec F S1x1 .f32) (a : Vec F S1x8192 .f32) (s : F .f32) (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare x6 ∗ owns (c : Thread nD τ) arg8 fullShare x7 ∗ owns (c : Thread nD τ) arg9 fullShare a ∗ owns (c : Thread nD τ) arg10 fullShare (fun _ => s)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay6 x0 x1 x2 x3) ∗ owns (c : Thread nD τ) arg6 fullShare (k0_pay9 x0 x1 x2 x3) ∗ owns (c : Thread nD τ) arg7 fullShare x6 ∗ owns (c : Thread nD τ) arg8 fullShare x7 ∗ owns (c : Thread nD τ) arg9 fullShare (countStep x0 x1 x2 x3 a) ∗ owns (c : Thread nD τ) arg10 fullShare (fun _ => (lossStep x0 x1 x2 x3 s))) -∗ Q ⟨⟩))
      ⊢ wp frame (wpE (defs₀ (F := F)) 𝒱₀ c none) E
          (cc0__vq_kernel i arg1 harg1 arg2 harg2 arg3 harg3 arg4 harg4 arg5 harg5 arg6 harg6 arg7 harg7 arg8 harg8 arg9 harg9 arg10 harg10) Q := by
  simp only [cc0__vq_kernel_eq_skeleton]; unfold cc0__vq_kernel_skel
  simp only [k0_part1_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4; obtain rfl := harg7.eq_unread hf7; obtain rfl := harg8.eq_unread hf8; obtain rfl := harg9.eq_unread hf9; obtain rfl := harg10.eq_unread hf10
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine read_writes_to _ _ _ _ _ _ ?_
    (try sl_unfold_words)
    (try unfold countStep); (try unfold lossStep)
    (try simp (disch := decide) only [View.readAt_eq_ld, View.ld_unit_lit', View.readCov_unit_lit', View.readCov_cons_unit_lit', harg1.read_unread, harg2.read_unread, harg3.read_unread, harg4.read_unread, harg9.read_unread, harg10.read_unread])
    all_goals rfl
  isplitl [H6]
  · iexists _; isplitr
    swap; · iexact H6
    ipureintro
    refine read_writes_to _ _ _ _ _ _ ?_
    (try sl_unfold_words)
    (try unfold countStep); (try unfold lossStep)
    (try simp (disch := decide) only [View.readAt_eq_ld, View.ld_unit_lit', View.readCov_unit_lit', View.readCov_cons_unit_lit', harg1.read_unread, harg2.read_unread, harg3.read_unread, harg4.read_unread, harg9.read_unread, harg10.read_unread])
    all_goals rfl
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    refine read_writes_to _ _ _ _ _ _ ?_
    (try sl_unfold_words)
    (try unfold countStep); (try unfold lossStep)
    (try simp (disch := decide) only [View.readAt_eq_ld, View.ld_unit_lit', View.readCov_unit_lit', View.readCov_cons_unit_lit', harg1.read_unread, harg2.read_unread, harg3.read_unread, harg4.read_unread, harg9.read_unread, harg10.read_unread])
    all_goals rfl
  iexists _; isplitr
  swap; · iexact H10
  ipureintro
  refine read_writes_to _ _ _ _ _ _ ?_
  (try sl_unfold_words)
  (try unfold countStep); (try unfold lossStep)
  (try simp (disch := decide) only [View.readAt_eq_ld, View.ld_unit_lit', View.readCov_unit_lit', View.readCov_cons_unit_lit', harg1.read_unread, harg2.read_unread, harg3.read_unread, harg4.read_unread, harg9.read_unread, harg10.read_unread])
  all_goals rfl

set_option maxHeartbeats 1000000 in
/-- The body at the last point: the accumulators move on, and the two scalars are written from them. -/
theorem body_last (c : Dev nD) (i : grid0.Coords) (arg1 : Memref sig .tc .vmem S1x32x16x32 .f32) (harg1 : arg1.IsWhole)
    (arg2 : Memref sig .tc .vmem S8192x32 .f32) (harg2 : arg2.IsWhole) (arg3 : Memref sig .tc .vmem S512x1 .f32) (harg3 : arg3.IsWhole)
    (arg4 : Memref sig .tc .vmem S1x8192 .f32) (harg4 : arg4.IsWhole) (arg5 : Memref sig .tc .vmem S512x8192 .f32) (harg5 : arg5.IsWhole)
    (arg6 : Memref sig .tc .vmem S1x1x512 .i32) (harg6 : arg6.IsWhole) (arg7 : Memref sig .tc .vmem S1x1 .f32) (harg7 : arg7.IsWhole)
    (arg8 : Memref sig .tc .vmem S1x1 .f32) (harg8 : arg8.IsWhole) (arg9 : Memref sig .tc .vmem S1x8192 .f32) (harg9 : arg9.IsWhole)
    (arg10 : Memref sig .tc .smem S1x1 .f32) (harg10 : arg10.IsWhole)
    (hc0 : ¬condFirst i) (hc1 : condLast i)
    (x0 : Vec F S1x32x16x32 .f32) (x1 : Vec F S8192x32 .f32) (x2 : Vec F S512x1 .f32) (x3 : Vec F S1x8192 .f32)
    (a : Vec F S1x8192 .f32) (s : F .f32) (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare a ∗ owns (c : Thread nD τ) arg10 fullShare (fun _ => s)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay6 x0 x1 x2 x3) ∗ owns (c : Thread nD τ) arg6 fullShare (k0_pay9 x0 x1 x2 x3) ∗ owns (c : Thread nD τ) arg7 fullShare (k0_pay4 (lossStep x0 x1 x2 x3 s)) ∗ owns (c : Thread nD τ) arg8 fullShare (k0_pay5 (countStep x0 x1 x2 x3 a)) ∗ owns (c : Thread nD τ) arg9 fullShare (countStep x0 x1 x2 x3 a) ∗ owns (c : Thread nD τ) arg10 fullShare (fun _ => (lossStep x0 x1 x2 x3 s))) -∗ Q ⟨⟩))
      ⊢ wp frame (wpE (defs₀ (F := F)) 𝒱₀ c none) E
          (cc0__vq_kernel i arg1 harg1 arg2 harg2 arg3 harg3 arg4 harg4 arg5 harg5 arg6 harg6 arg7 harg7 arg8 harg8 arg9 harg9 arg10 harg10) Q := by
  simp only [cc0__vq_kernel_eq_skeleton]; unfold cc0__vq_kernel_skel
  simp only [k0_part1_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4; obtain rfl := harg9.eq_unread hf9; obtain rfl := harg10.eq_unread hf10
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine read_writes_to _ _ _ _ _ _ ?_
    (try sl_unfold_words)
    (try unfold countStep); (try unfold lossStep)
    (try simp (disch := decide) only [View.readAt_eq_ld, View.ld_unit_lit', View.readCov_unit_lit', View.readCov_cons_unit_lit', harg1.read_unread, harg2.read_unread, harg3.read_unread, harg4.read_unread, harg9.read_unread, harg10.read_unread])
    all_goals rfl
  isplitl [H6]
  · iexists _; isplitr
    swap; · iexact H6
    ipureintro
    refine read_writes_to _ _ _ _ _ _ ?_
    (try sl_unfold_words)
    (try unfold countStep); (try unfold lossStep)
    (try simp (disch := decide) only [View.readAt_eq_ld, View.ld_unit_lit', View.readCov_unit_lit', View.readCov_cons_unit_lit', harg1.read_unread, harg2.read_unread, harg3.read_unread, harg4.read_unread, harg9.read_unread, harg10.read_unread])
    all_goals rfl
  isplitl [H7]
  · iexists _; isplitr
    swap; · iexact H7
    ipureintro
    refine read_writes_to _ _ _ _ _ _ ?_
    (try sl_unfold_words)
    (try unfold countStep); (try unfold lossStep)
    (try simp (disch := decide) only [View.readAt_eq_ld, View.ld_unit_lit', View.readCov_unit_lit', View.readCov_cons_unit_lit', harg1.read_unread, harg2.read_unread, harg3.read_unread, harg4.read_unread, harg9.read_unread, harg10.read_unread])
    all_goals rfl
  isplitl [H8]
  · iexists _; isplitr
    swap; · iexact H8
    ipureintro
    refine read_writes_to _ _ _ _ _ _ ?_
    (try sl_unfold_words)
    (try unfold countStep); (try unfold lossStep)
    (try simp (disch := decide) only [View.readAt_eq_ld, View.ld_unit_lit', View.readCov_unit_lit', View.readCov_cons_unit_lit', harg1.read_unread, harg2.read_unread, harg3.read_unread, harg4.read_unread, harg9.read_unread, harg10.read_unread])
    all_goals rfl
  isplitl [H9]
  · iexists _; isplitr
    swap; · iexact H9
    ipureintro
    refine read_writes_to _ _ _ _ _ _ ?_
    (try sl_unfold_words)
    (try unfold countStep); (try unfold lossStep)
    (try simp (disch := decide) only [View.readAt_eq_ld, View.ld_unit_lit', View.readCov_unit_lit', View.readCov_cons_unit_lit', harg1.read_unread, harg2.read_unread, harg3.read_unread, harg4.read_unread, harg9.read_unread, harg10.read_unread])
    all_goals rfl
  iexists _; isplitr
  swap; · iexact H10
  ipureintro
  refine read_writes_to _ _ _ _ _ _ ?_
  (try sl_unfold_words)
  (try unfold countStep); (try unfold lossStep)
  (try simp (disch := decide) only [View.readAt_eq_ld, View.ld_unit_lit', View.readCov_unit_lit', View.readCov_cons_unit_lit', harg1.read_unread, harg2.read_unread, harg3.read_unread, harg4.read_unread, harg9.read_unread, harg10.read_unread])
  all_goals rfl

end Cert.Proof.VQ

end
-- ==== Proof.Region.lean ====
/-
  The TensorCore call inside the whole program: the two accumulators after each grid point, what the staging buffers
  hold after the body, the body's obligation at every point, and the region over the program's unscoped buffers at a
  valuation.  The TensorCore owes the SparseCore call's start units throughout, so the invariant carries them.
-/
module

public import proofs.«01_k».proof.Proof.Body
public import Idealize.ShloMosaic.Lib.Pipeline.Frame

@[expose] public section

noncomputable section

namespace Cert.Proof.VQ

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.TcCoe

variable {F : FTy → Type} [FloatOps F]

local notation "𝕄" => MT nD τ sig (HIx 1) (Elt F) ℕ UU ℕ

/-! ## Where the two scalar outputs are idle -/

theorem idle6 : ∀ t : Fin cfg0.N, t.val % 16 ≠ 15 → cfg0.idle 6 (grid0.coords t) = true := by decide +kernel
theorem idle7 : ∀ t : Fin cfg0.N, t.val % 16 ≠ 15 → cfg0.idle 7 (grid0.coords t) = true := by decide +kernel
theorem live6 : ∀ t : Fin cfg0.N, t.val % 16 = 15 → cfg0.idle 6 (grid0.coords t) = false := by decide +kernel
theorem live7 : ∀ t : Fin cfg0.N, t.val % 16 = 15 → cfg0.idle 7 (grid0.coords t) = false := by decide +kernel
theorem stay6 (t : Fin cfg0.N) (h : t.val % 16 ≠ 15) : (cfg0.win 6).flush t = false :=
  Bool.eq_false_iff.mpr fun hf => h ((flush0_6 t).mp hf)
theorem stay7 (t : Fin cfg0.N) (h : t.val % 16 ≠ 15) : (cfg0.win 7).flush t = false :=
  Bool.eq_false_iff.mpr fun hf => h ((flush0_7 t).mp hf)

/-! ## The values -/

-- The contents the region is entered with, on each device.
variable (W : Dev nD → Valuation τ sig (Elt F))

/-- Window `w`'s block at point `t`, read off the entry contents. -/
def blkIn (d : Dev nD) (w : Fin cfg0.W) (t : Fin cfg0.N) : ((cfg0.win w).xblock (cfg0.grid.coords t)).Idx → Elt F (cfg0.win w).elt :=
  ((cfg0.win w).blk t).view.read (Elt F) (W d (Pipeline.arrRef spec0 w))

/-- The codeword counts after `n` points, -/
def cnt (d : Dev nD) : (n : ℕ) → n ≤ cfg0.N → Vec F S1x8192 .f32
  | 0, _ => k0_pay1
  | n + 1, h => countStep (blkIn W d 0 ⟨n, h⟩) (blkIn W d 1 ⟨n, h⟩) (blkIn W d 2 ⟨n, h⟩) (blkIn W d 3 ⟨n, h⟩) (cnt d n (Nat.le_of_lt h))
/-- and the sum of the row minima after `n` points. -/
def lsum (d : Dev nD) : (n : ℕ) → n ≤ cfg0.N → F .f32
  | 0, _ => Scalar.ofBits .f32 0x00000000#32
  | n + 1, h => lossStep (blkIn W d 0 ⟨n, h⟩) (blkIn W d 1 ⟨n, h⟩) (blkIn W d 2 ⟨n, h⟩) (blkIn W d 3 ⟨n, h⟩) (lsum d n (Nat.le_of_lt h))

/-- The scratch buffers before point `n`: at anything before the first, at the accumulators later. -/
def acc (d : Dev nD) : (n : ℕ) → n ≤ cfg0.N → sProp 𝕄
  | 0, _ => Pipeline.scopedRest (Ix := HIx 1) (Name := ℕ) (U := UU) (Lvl := ℕ) (Val := Elt F) spec0 d
  | n + 1, h => iprop((((d : Thread nD τ).loc cc0_scratch0) ↦{fullShare} cnt W d (n + 1) h)
      ∗ ((d : Thread nD τ).loc cc0_scratch1) ↦{fullShare} (fun _ => lsum W d (n + 1) h))

theorem acc_pos (d : Dev nD) (n : ℕ) (h : n ≤ cfg0.N) (hz : n ≠ 0) :
    acc W d n h = iprop((((d : Thread nD τ).loc cc0_scratch0) ↦{fullShare} cnt W d n h)
      ∗ ((d : Thread nD τ).loc cc0_scratch1) ↦{fullShare} (fun _ => lsum W d n h)) := by
  cases n with
  | zero => exact absurd rfl hz
  | succ n => rfl

/-- The waits recorded before the region: none above the launch's own. -/
abbrev recd (d : Dev nD) : Set (SemLoc sig × HIx 1) := {p | (K (F := F)).lev (T d, p.1) p.2 ≤ 8 * SparseCore.Cfg.Blocks.fst (Q := 1) (N := 1) 0}

/-- The proof data of the region entered at `W`. -/
def dat (d : Dev nD) : Pipeline.Dat τ (Elt F) (HIx 1) ℕ UU ℕ cfg0 d where
  A w := W d (Pipeline.arrRef spec0 w)
  after w t := match w with
    | ⟨0, _⟩ => blkIn W d 0 t
    | ⟨1, _⟩ => blkIn W d 1 t
    | ⟨2, _⟩ => blkIn W d 2 t
    | ⟨3, _⟩ => blkIn W d 3 t
    | ⟨4, _⟩ => k0_pay6 (blkIn W d 0 t) (blkIn W d 1 t) (blkIn W d 2 t) (blkIn W d 3 t)
    | ⟨5, _⟩ => k0_pay9 (blkIn W d 0 t) (blkIn W d 1 t) (blkIn W d 2 t) (blkIn W d 3 t)
    | ⟨6, _⟩ => k0_pay4 (lsum W d (t.val + 1) t.isLt)
    | ⟨7, _⟩ => k0_pay5 (cnt W d (t.val + 1) t.isLt)
  Φ t := acc W d t.val (Nat.le_of_lt_succ t.isLt)
  q _ := fullShare
  owed _ := (K (F := F)).Otc d 0
  recorded _ := recd (F := F) d

abbrev dats : (p : Fin 1) → (d : Dev nD) → Pipeline.Dat τ (Elt F) (HIx 1) ℕ UU ℕ (cfgs p) d
  | ⟨0, _⟩ => fun d => dat W d

theorem dat_A (d : Dev nD) (w : Fin cfg0.W) : (dat W d).A w = W d (Pipeline.arrRef spec0 w) := by dsimp only [dat]
theorem Φ_at (d : Dev nD) (t : Fin cfg0.N) : (dat W d).Φ t.castSucc = acc W d t.val (Nat.le_of_lt t.isLt) := by
  dsimp only [dat]; exact Pipeline.Dat.Φ_castSucc (acc W d) t
theorem after0 (d : Dev nD) (t : Fin cfg0.N) : (dat W d).after 0 t = blkIn W d 0 t := by dsimp only [dat]
theorem after1 (d : Dev nD) (t : Fin cfg0.N) : (dat W d).after 1 t = blkIn W d 1 t := by dsimp only [dat]
theorem after2 (d : Dev nD) (t : Fin cfg0.N) : (dat W d).after 2 t = blkIn W d 2 t := by dsimp only [dat]
theorem after3 (d : Dev nD) (t : Fin cfg0.N) : (dat W d).after 3 t = blkIn W d 3 t := by dsimp only [dat]
theorem after4 (d : Dev nD) (t : Fin cfg0.N) : (dat W d).after 4 t = k0_pay6 (blkIn W d 0 t) (blkIn W d 1 t) (blkIn W d 2 t) (blkIn W d 3 t) := by dsimp only [dat]
theorem after5 (d : Dev nD) (t : Fin cfg0.N) : (dat W d).after 5 t = k0_pay9 (blkIn W d 0 t) (blkIn W d 1 t) (blkIn W d 2 t) (blkIn W d 3 t) := by dsimp only [dat]
theorem after6 (d : Dev nD) (t : Fin cfg0.N) : (dat W d).after 6 t = k0_pay4 (lsum W d (t.val + 1) t.isLt) := by dsimp only [dat]
theorem after7 (d : Dev nD) (t : Fin cfg0.N) : (dat W d).after 7 t = k0_pay5 (cnt W d (t.val + 1) t.isLt) := by dsimp only [dat]

theorem before0 (d : Dev nD) (t : Fin cfg0.N) (x) : (dat W d).before 0 t x = blkIn W d 0 t :=
  ((dat W d).before_in_eq_fetched 0 rfl (fun _ => rfl) (fun _ _ _ => rfl)
      (fun t => by rw [after0]; unfold Pipeline.Dat.blockOf blkIn; rw [dat_A]; try rfl) t x).trans
    (by unfold Pipeline.Dat.fetched Pipeline.Dat.blockOf blkIn; rw [dat_A]; try rfl)
theorem before1 (d : Dev nD) (t : Fin cfg0.N) (x) : (dat W d).before 1 t x = blkIn W d 1 t :=
  ((dat W d).before_in_eq_fetched 1 rfl (fun _ => rfl) (fun _ _ _ => rfl)
      (fun t => by rw [after1]; unfold Pipeline.Dat.blockOf blkIn; rw [dat_A]; try rfl) t x).trans
    (by unfold Pipeline.Dat.fetched Pipeline.Dat.blockOf blkIn; rw [dat_A]; try rfl)
theorem before2 (d : Dev nD) (t : Fin cfg0.N) (x) : (dat W d).before 2 t x = blkIn W d 2 t :=
  ((dat W d).before_in_eq_fetched 2 rfl (fun _ => rfl) (fun _ _ _ => rfl)
      (fun t => by rw [after2]; unfold Pipeline.Dat.blockOf blkIn; rw [dat_A]; try rfl) t x).trans
    (by unfold Pipeline.Dat.fetched Pipeline.Dat.blockOf blkIn; rw [dat_A]; try rfl)
theorem before3 (d : Dev nD) (t : Fin cfg0.N) (x) : (dat W d).before 3 t x = blkIn W d 3 t :=
  ((dat W d).before_in_eq_fetched 3 rfl (fun _ => rfl) (fun _ _ _ => rfl)
      (fun t => by rw [after3]; unfold Pipeline.Dat.blockOf blkIn; rw [dat_A]; try rfl) t x).trans
    (by unfold Pipeline.Dat.fetched Pipeline.Dat.blockOf blkIn; rw [dat_A]; try rfl)

abbrev stg0 (t : Fin cfg0.N) : Memref sig .tc .vmem S1x32x16x32 .f32 := win0_0.stage (cfg0.slots t 0)
abbrev stg1 (t : Fin cfg0.N) : Memref sig .tc .vmem S8192x32 .f32 := win0_1.stage (cfg0.slots t 1)
abbrev stg2 (t : Fin cfg0.N) : Memref sig .tc .vmem S512x1 .f32 := win0_2.stage (cfg0.slots t 2)
abbrev stg3 (t : Fin cfg0.N) : Memref sig .tc .vmem S1x8192 .f32 := win0_3.stage (cfg0.slots t 3)
abbrev stg4 (t : Fin cfg0.N) : Memref sig .tc .vmem S512x8192 .f32 := win0_4.stage (cfg0.slots t 4)
abbrev stg5 (t : Fin cfg0.N) : Memref sig .tc .vmem S1x1x512 .i32 := win0_5.stage (cfg0.slots t 5)
abbrev stg6 (t : Fin cfg0.N) : Memref sig .tc .vmem S1x1 .f32 := win0_6.stage (cfg0.slots t 6)
abbrev stg7 (t : Fin cfg0.N) : Memref sig .tc .vmem S1x1 .f32 := win0_7.stage (cfg0.slots t 7)

/-! ## The body at a point -/

/-- What the body is called with at point `t`, -/
def callPre (d : Dev nD) (t : Fin cfg0.N) : sProp 𝕄 :=
  iprop((dat W d).Φ t.castSucc ∗ (dat W d).owesAt none t.castSucc
    ∗ (∃ x, owns (d : Thread nD τ) (stg0 t) fullShare ((dat W d).before 0 t x))
    ∗ (∃ x, owns (d : Thread nD τ) (stg1 t) fullShare ((dat W d).before 1 t x))
    ∗ (∃ x, owns (d : Thread nD τ) (stg2 t) fullShare ((dat W d).before 2 t x))
    ∗ (∃ x, owns (d : Thread nD τ) (stg3 t) fullShare ((dat W d).before 3 t x))
    ∗ (∃ x, owns (d : Thread nD τ) (stg4 t) fullShare ((dat W d).before 4 t x))
    ∗ (∃ x, owns (d : Thread nD τ) (stg5 t) fullShare ((dat W d).before 5 t x))
    ∗ (∃ x, owns (d : Thread nD τ) (stg6 t) fullShare ((dat W d).before 6 t x))
    ∗ (∃ x, owns (d : Thread nD τ) (stg7 t) fullShare ((dat W d).before 7 t x)))

/-- and what it returns. -/
def callPost (d : Dev nD) (t : Fin cfg0.N) : sProp 𝕄 :=
  iprop((dat W d).Φ t.succ ∗ (dat W d).owesAt none t.succ
    ∗ (dat W d).leavesExact 0 t
    ∗ (dat W d).leavesExact 1 t
    ∗ (dat W d).leavesExact 2 t
    ∗ (dat W d).leavesExact 3 t
    ∗ (dat W d).leavesExact 4 t
    ∗ (dat W d).leavesExact 5 t
    ∗ (dat W d).leavesExact 6 t
    ∗ (dat W d).leavesExact 7 t)

theorem leaves0 (d : Dev nD) (t : Fin cfg0.N) : (dat W d).leavesExact 0 t = owns (d : Thread nD τ) (stg0 t) fullShare (blkIn W d 0 t) := by
  unfold Pipeline.Dat.leavesExact; rw [show cfg0.idle 0 (grid0.coords t) = false from rfl, after0]
theorem leaves1 (d : Dev nD) (t : Fin cfg0.N) : (dat W d).leavesExact 1 t = owns (d : Thread nD τ) (stg1 t) fullShare (blkIn W d 1 t) := by
  unfold Pipeline.Dat.leavesExact; rw [show cfg0.idle 1 (grid0.coords t) = false from rfl, after1]
theorem leaves2 (d : Dev nD) (t : Fin cfg0.N) : (dat W d).leavesExact 2 t = owns (d : Thread nD τ) (stg2 t) fullShare (blkIn W d 2 t) := by
  unfold Pipeline.Dat.leavesExact; rw [show cfg0.idle 2 (grid0.coords t) = false from rfl, after2]
theorem leaves3 (d : Dev nD) (t : Fin cfg0.N) : (dat W d).leavesExact 3 t = owns (d : Thread nD τ) (stg3 t) fullShare (blkIn W d 3 t) := by
  unfold Pipeline.Dat.leavesExact; rw [show cfg0.idle 3 (grid0.coords t) = false from rfl, after3]
theorem leaves4 (d : Dev nD) (t : Fin cfg0.N) : (dat W d).leavesExact 4 t = owns (d : Thread nD τ) (stg4 t) fullShare (k0_pay6 (blkIn W d 0 t) (blkIn W d 1 t) (blkIn W d 2 t) (blkIn W d 3 t)) := by
  unfold Pipeline.Dat.leavesExact; rw [show cfg0.idle 4 (grid0.coords t) = false from rfl, after4]
theorem leaves5 (d : Dev nD) (t : Fin cfg0.N) : (dat W d).leavesExact 5 t = owns (d : Thread nD τ) (stg5 t) fullShare (k0_pay9 (blkIn W d 0 t) (blkIn W d 1 t) (blkIn W d 2 t) (blkIn W d 3 t)) := by
  unfold Pipeline.Dat.leavesExact; rw [show cfg0.idle 5 (grid0.coords t) = false from rfl, after5]
theorem leaves6 (d : Dev nD) (t : Fin cfg0.N) (h : t.val % 16 = 15) :
    (dat W d).leavesExact 6 t = owns (d : Thread nD τ) (stg6 t) fullShare (k0_pay4 (lsum W d (t.val + 1) t.isLt)) := by
  unfold Pipeline.Dat.leavesExact; rw [live6 t h, after6]
theorem leaves7 (d : Dev nD) (t : Fin cfg0.N) (h : t.val % 16 = 15) :
    (dat W d).leavesExact 7 t = owns (d : Thread nD τ) (stg7 t) fullShare (k0_pay5 (cnt W d (t.val + 1) t.isLt)) := by
  unfold Pipeline.Dat.leavesExact; rw [live7 t h, after7]

theorem acc_zero (d : Dev nD) (t : Fin cfg0.N) (hz : t.val = 0) :
    acc W d t.val (Nat.le_of_lt t.isLt) = iprop((∃ f : Buf (Elt F) ((d : Thread nD τ).loc cc0_scratch0), ((d : Thread nD τ).loc cc0_scratch0) ↦{fullShare} f)
      ∗ (∃ f : Buf (Elt F) ((d : Thread nD τ).loc cc0_scratch1), ((d : Thread nD τ).loc cc0_scratch1) ↦{fullShare} f)) := by
  obtain ⟨n, hn⟩ := t
  obtain rfl : n = 0 := hz
  exact scopedRest0_eq d
theorem cnt_next (d : Dev nD) (t : Fin cfg0.N) : cnt W d (t.val + 1) t.isLt
    = countStep (blkIn W d 0 t) (blkIn W d 1 t) (blkIn W d 2 t) (blkIn W d 3 t) (cnt W d t.val (Nat.le_of_lt t.isLt)) := rfl
theorem lsum_next (d : Dev nD) (t : Fin cfg0.N) : lsum W d (t.val + 1) t.isLt
    = lossStep (blkIn W d 0 t) (blkIn W d 1 t) (blkIn W d 2 t) (blkIn W d 3 t) (lsum W d t.val (Nat.le_of_lt t.isLt)) := rfl
theorem cnt_first (d : Dev nD) (t : Fin cfg0.N) (hz : t.val = 0) : cnt W d (t.val + 1) t.isLt
    = countStep (blkIn W d 0 t) (blkIn W d 1 t) (blkIn W d 2 t) (blkIn W d 3 t) k0_pay1 := by
  obtain ⟨n, hn⟩ := t
  obtain rfl : n = 0 := hz
  rfl
theorem lsum_first (d : Dev nD) (t : Fin cfg0.N) (hz : t.val = 0) : lsum W d (t.val + 1) t.isLt
    = lossStep (blkIn W d 0 t) (blkIn W d 1 t) (blkIn W d 2 t) (blkIn W d 3 t) (Scalar.ofBits .f32 0x00000000#32) := by
  obtain ⟨n, hn⟩ := t
  obtain rfl : n = 0 := hz
  rfl

set_option maxHeartbeats 4000000 in
/-- The body at any point, by the kind of point. -/
theorem call_sound (d : Dev nD) (t : Fin cfg0.N) :
    callPre W d t ⊢ wp frame (wpE (defs₀ (F := F)) 𝒱₀ d none) Set.univ (bodyAt0 t) (fun _ => callPost W d t) := by
  unfold callPre callPost bodyAt0
  simp only [before0, before1, before2, before3]
  rw [show (dat W d).owesAt none t.succ = (dat W d).owesAt none t.castSucc from rfl]
  rw [show (dat W d).Φ t.succ = acc W d (t.val + 1) t.isLt from rfl, acc_pos W d (t.val + 1) t.isLt (Nat.succ_ne_zero _)]
  rw [leaves0, leaves1, leaves2, leaves3, leaves4, leaves5]
  have hN : t.val < 16 := lt_of_lt_of_eq t.isLt (show cfg0.N = 16 from N_0)
  by_cases h0 : t.val % 16 = 0
  · have h1 : t.val % 16 ≠ 15 := by omega
    have hz : t.val = 0 := by omega
    rw [Pipeline.Dat.leavesExact_idle (dat W d) 6 t (idle6 t h1) (stay6 t h1), Pipeline.Dat.leavesExact_idle (dat W d) 7 t (idle7 t h1) (stay7 t h1)]
    rw [Φ_at, acc_zero W d t hz, cnt_first W d t hz, lsum_first W d t hz]
    iintro ⟨⟨HS0, HS1⟩, Ho, ⟨%y0, H0⟩, ⟨%y1, H1⟩, ⟨%y2, H2⟩, ⟨%y3, H3⟩, ⟨%y4, H4⟩, ⟨%y5, H5⟩, ⟨%y6, H6⟩, ⟨%y7, H7⟩⟩
    iapply (body_first d (grid0.coords t) _ _ _ _ _ _ _ _ _ _ _ _ _ _ _ _ (Memref.whole cc0_scratch0) (Memref.isWhole_whole _) (Memref.whole cc0_scratch1) (Memref.isWhole_whole _) ((condFirst_iff t).mpr h0) (fun h => h1 ((condLast_iff t).mp h))
      (blkIn W d 0 t) (blkIn W d 1 t) (blkIn W d 2 t) (blkIn W d 3 t) _ _  Set.univ _)
    simp only [owns_whole]
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1]
    · isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · have hz : t.val ≠ 0 := by omega
    by_cases h1 : t.val % 16 = 15
    · rw [leaves6 W d t h1, leaves7 W d t h1, Φ_at, acc_pos W d _ _ hz]
      rw [cnt_next, lsum_next]
      iintro ⟨⟨HS0, HS1⟩, Ho, ⟨%y0, H0⟩, ⟨%y1, H1⟩, ⟨%y2, H2⟩, ⟨%y3, H3⟩, ⟨%y4, H4⟩, ⟨%y5, H5⟩, ⟨%y6, H6⟩, ⟨%y7, H7⟩⟩
      iapply (body_last d (grid0.coords t) _ _ _ _ _ _ _ _ _ _ _ _ _ _ _ _ (Memref.whole cc0_scratch0) (Memref.isWhole_whole _) (Memref.whole cc0_scratch1) (Memref.isWhole_whole _) (fun h => h0 ((condFirst_iff t).mp h)) ((condLast_iff t).mpr h1)
        (blkIn W d 0 t) (blkIn W d 1 t) (blkIn W d 2 t) (blkIn W d 3 t)  (cnt W d t.val (Nat.le_of_lt t.isLt)) (lsum W d t.val (Nat.le_of_lt t.isLt)) Set.univ _)
      simp only [owns_whole]
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Pipeline.Dat.leavesExact_idle (dat W d) 6 t (idle6 t h1) (stay6 t h1), Pipeline.Dat.leavesExact_idle (dat W d) 7 t (idle7 t h1) (stay7 t h1)]
      rw [Φ_at, acc_pos W d _ _ hz]
      rw [cnt_next, lsum_next]
      iintro ⟨⟨HS0, HS1⟩, Ho, ⟨%y0, H0⟩, ⟨%y1, H1⟩, ⟨%y2, H2⟩, ⟨%y3, H3⟩, ⟨%y4, H4⟩, ⟨%y5, H5⟩, ⟨%y6, H6⟩, ⟨%y7, H7⟩⟩
      iapply (body_mid d (grid0.coords t) _ _ _ _ _ _ _ _ _ _ _ _ _ _ _ _ (Memref.whole cc0_scratch0) (Memref.isWhole_whole _) (Memref.whole cc0_scratch1) (Memref.isWhole_whole _) (fun h => h0 ((condFirst_iff t).mp h)) (fun h => h1 ((condLast_iff t).mp h))
        (blkIn W d 0 t) (blkIn W d 1 t) (blkIn W d 2 t) (blkIn W d 3 t) _ _ (cnt W d t.val (Nat.le_of_lt t.isLt)) (lsum W d t.val (Nat.le_of_lt t.isLt)) Set.univ _)
      simp only [owns_whole]
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

theorem row_eq (t : Fin cfg0.N) : defs₀ (F := F) .tc cfg0.body (cfg0.bodyArgs t (cfg0.slots t)) = bodyAt0 t := by
  rfl

theorem body_ob (d : Dev nD) : Pipeline.BodyObligation (dat W d) (defs₀ (F := F)) 𝒱₀ none Set.univ := fun t => by
  rw [bigSep_W0, bigSep_W0, row_eq]
  exact triple_restated (call_sound W d t) rfl .rfl fun _ => .rfl

end Cert.Proof.VQ

end
-- ==== Proof.Seg.lean ====
/-
  The TensorCore call as one step of the program's main: from the unscoped buffers at a valuation and the SparseCore
  call's start units owed, to the buffers with the four outputs at what the grid wrote back, owing the same.
-/
module

public import proofs.«01_k».proof.Proof.Region

@[expose] public section

noncomputable section

namespace Cert.Proof.VQ

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.TcCoe

variable {F : FTy → Type} [FloatOps F]

local notation "𝕄" => MT nD τ sig (HIx 1) (Elt F) ℕ UU ℕ

/-- No pipeline here takes a table, so its one admissible contents. -/
abbrev adm : (p : Fin 1) → (pcfgs (F := F) p).Adm := fun p => (cfgs p).toPCfg_adm

variable (W : Dev nD → Valuation τ sig (Elt F))

/-- What the program owes the SparseCores' start cells, with the waits recorded so far. -/
def owing (d : Dev nD) : sProp 𝕄 :=
  iprop(∃ Wt, ⌜(K (F := F)).WBelow (T d) Wt (8 * SparseCore.Cfg.Blocks.fst (Q := 1) (N := 1) 0)⌝ ∗ owes (T d) ((K (F := F)).Otc d 0) Wt)

/-- The unscoped buffers after the region. -/
def afterTc (d : Dev nD) : Valuation τ sig (Elt F) :=
  Function.update (Function.update (Function.update (Function.update (W d)
    (main_v6_0 : DevRef τ sig) ((dat W d).arrAt 4 cfg0.N)) (main_v6_1 : DevRef τ sig) ((dat W d).arrAt 5 cfg0.N))
    (main_v6_2 : DevRef τ sig) ((dat W d).arrAt 6 cfg0.N)) (main_v6_3 : DevRef τ sig) ((dat W d).arrAt 7 cfg0.N)

theorem afterTc_dist (d : Dev nD) : afterTc W d (main_v6_0 : DevRef τ sig) = (dat W d).arrAt 4 cfg0.N := by
  unfold afterTc
  rw [Function.update_of_ne (by decide), Function.update_of_ne (by decide), Function.update_of_ne (by decide), Function.update_self]
theorem afterTc_idx (d : Dev nD) : afterTc W d (main_v6_1 : DevRef τ sig) = (dat W d).arrAt 5 cfg0.N := by
  unfold afterTc
  rw [Function.update_of_ne (by decide), Function.update_of_ne (by decide), Function.update_self]
theorem afterTc_loss (d : Dev nD) : afterTc W d (main_v6_2 : DevRef τ sig) = (dat W d).arrAt 6 cfg0.N := by
  unfold afterTc
  rw [Function.update_of_ne (by decide), Function.update_self]
theorem afterTc_perp (d : Dev nD) : afterTc W d (main_v6_3 : DevRef τ sig) = (dat W d).arrAt 7 cfg0.N := by
  unfold afterTc
  rw [Function.update_self]
theorem afterTc_of_ne (d : Dev nD) (b : DevRef τ sig) (h0 : b ≠ main_v6_0) (h1 : b ≠ main_v6_1) (h2 : b ≠ main_v6_2) (h3 : b ≠ main_v6_3) :
    afterTc W d b = W d b := by
  unfold afterTc
  rw [Function.update_of_ne h3, Function.update_of_ne h2, Function.update_of_ne h1, Function.update_of_ne h0]

theorem start_none (d : Dev nD) (g : GSem nD τ sig) : (K (F := F)).Otc (N := 1) d 0 g none = 0 := by
  by_contra h
  have := SparseCore.Cfg.lev_of_Otc_pos (K := K (F := F)) (Nat.pos_of_ne_zero h)
  have h0 : (K (F := F)).lev (N := 1) g none = 0 := rfl
  omega

set_option backward.isDefEq.respectTransparency.types false in
/-- The region over the thread state: every unscoped buffer at `W`, the start units owed. -/
def tcSeg : Pipeline.RegionSeg (pcfgs (F := F)) adm (dats W) none defs₀ 𝒱₀ (K (F := F)).L (K (F := F)).lev 0 where
  win := winFacts0.to₀
  block_pos := block_pos0
  stage_whole := stage_whole0
  K := PEmpty
  osem k := k.elim
  ho := Pipeline.OwnSemFacts.none _
  hbody d := (body_ob W d).loose
  hwaits d := Pipeline.cellsWaits_intro _ _ _ _ _ fun w s t => (K (F := F)).mayWait_none _ (start_none d)
  pre d := iprop(unscopedBufs d (fun b => W d b) ∗ owing (F := F) d)
  post d := iprop(unscopedBufs d (fun b => afterTc W d b) ∗ owing (F := F) d)
  X _ := BI.emp
  Y _ := BI.emp
  Z d := Pipeline.unscopedRest (Ix := HIx 1) (Name := ℕ) (U := UU) (Lvl := ℕ) spec0 d (fun b => W d b)
  hentry d := by
    rw [Pipeline.ownSems0_none]
    have hsplit := Pipeline.arrays_of_unscopedBufs (p := 0) (pcfgs (F := F)) adm (dats W) winFacts0 arr_whole0 d
      ((dats W 0 d).share_full fun _ => rfl) (fun b => W d b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold owing Pipeline.Dat.owesAt Pipeline.owesWithin
      icases HO with ⟨%Wt, %hW, HO⟩; iexists Wt; isplitr; · ipureintro; exact fun p hp => Or.inl (hW p hp)
      iexact HO
    isplitr; · iempintro
    iexact Hrest
  hin d := by
    rw [show (dats W 0 d).Φ 0 = Pipeline.scopedRest (Ix := HIx 1) (Name := ℕ) (U := UU) (Lvl := ℕ) (Val := Elt F) spec0 d from rfl]
    iintro ⟨-, -, Hr⟩; iexact Hr
  hout d := by
    rw [Pipeline.ownSems0_none, show (dats W 0 d).Φ (Fin.last _) = acc W d cfg0.N le_rfl from rfl, acc_pos W d _ _ (by rw [show cfg0.N = 16 from N_0]; decide)]
    iintro ⟨H0, H1⟩
    isplitr; · iempintro
    isplitr; · iempintro
    iapply (Entails.of_eq (scopedRest0_eq (Ix := HIx 1) (Val := Elt F) (Name := ℕ) (U := UU) (Lvl := ℕ) d).symm)
    isplitl [H0]; · iexists _; iexact H0
    iexists _; iexact H1
  hexit d := by
    have hjoin := Pipeline.unscopedBufs_of_arrays (p := 0) (pcfgs (F := F)) adm (Ix := HIx 1) (Name := ℕ) (U := UU) (Lvl := ℕ) winFacts0 arr_whole0 d
      (dats W) ((dats W 0 d).share_full fun _ => rfl) (fun b => W d b) (fun b => afterTc W d b) ((dats W 0 d).arrAt · cfg0.N)
      (fun w => by
        fin_cases w
        · exact ((dats W 0 d).arrAt_in 0 rfl _).trans (afterTc_of_ne W d _ (by decide) (by decide) (by decide) (by decide)).symm
        · exact ((dats W 0 d).arrAt_in 1 rfl _).trans (afterTc_of_ne W d _ (by decide) (by decide) (by decide) (by decide)).symm
        · exact ((dats W 0 d).arrAt_in 2 rfl _).trans (afterTc_of_ne W d _ (by decide) (by decide) (by decide) (by decide)).symm
        · exact ((dats W 0 d).arrAt_in 3 rfl _).trans (afterTc_of_ne W d _ (by decide) (by decide) (by decide) (by decide)).symm
        · exact (afterTc_dist W d).symm
        · exact (afterTc_idx W d).symm
        · exact (afterTc_loss W d).symm
        · exact (afterTc_perp W d).symm)
      (fun b hb => afterTc_of_ne W d b
        (fun h => hb (Finset.mem_image.mpr ⟨4, Finset.mem_univ _, Proc.devRef_injective _ h.symm⟩))
        (fun h => hb (Finset.mem_image.mpr ⟨5, Finset.mem_univ _, Proc.devRef_injective _ h.symm⟩))
        (fun h => hb (Finset.mem_image.mpr ⟨6, Finset.mem_univ _, Proc.devRef_injective _ h.symm⟩))
        (fun h => hb (Finset.mem_image.mpr ⟨7, Finset.mem_univ _, Proc.devRef_injective _ h.symm⟩)))
    iintro ⟨Ha, HO, -, Hrest⟩
    imodintro
    isplitl [Ha Hrest]
    · iapply hjoin; isplitl [Ha] <;> iassumption
    unfold owing Pipeline.Dat.owesAt Pipeline.owesWithin
    icases HO with ⟨%Wt, %hW, HO⟩; iexists Wt; isplitr
    · ipureintro
      intro p hp
      rcases hW hp with h | ⟨w, s, rfl⟩
      · exact h
      · exact Nat.zero_le _
    iexact HO

theorem pins_inj : Function.Injective (Pipeline.cellOf (nD := nD) (τ := τ) (Pipeline.pin (pcfgs (F := F)) adm)) := cellOf_inj

instance : (EP (F := F)).LandsIn (upEmb : UEmb _ 𝕄) := by unfold EP; infer_instance

/-- The call of the region's entry, in the certificate's own labels. -/
def tcProg : Prog (TpuEff nD τ sig (Elt F) (ΛP (F := F)) .tc) PUnit := .op (.customCall (Pipeline.entry 0) ()) .ret

theorem tcProg_lift : SparseCore.liftProg (Q := 1) (tcProg (F := F)) = Prog.lift (.customCall (SparseCore.inner (Pipeline.entry 0)) ()) := rfl

/-- The step, under the whole program's body table. -/
theorem wp_tcCall (d : Dev nD) (Q : PUnit → sProp 𝕄) :
    iprop((iprop(boundary (d.tc : Thread nD τ) ∗ unscopedBufs d (fun b => afterTc W d b) ∗ owing (F := F) d) -∗ Q ⟨⟩)
        ∗ boundary (d.tc : Thread nD τ) ∗ (unscopedBufs d (fun b => W d b) ∗ owing (F := F) d) ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs D) 𝒱 (d.tc : Thread nD τ) none) Set.univ
          (Prog.lift (.customCall (SparseCore.inner (Pipeline.entry 0)) ())) Q := by
  have hl := (K (F := F)).wp_liftProg D 𝒱 (d.tc : Thread nD τ) Set.univ none (tcProg (F := F)) Q
  rw [tcProg_lift] at hl
  have hw := Pipeline.RegionSeg.wp (pcfgs (F := F)) adm (dats W) none pins_inj EP defs₀ 𝒱₀ (K (F := F)).L (K (F := F)).lev (tcSeg W) d none
    (fun _ h => by cases h) .ret Q
  iintro ⟨Hk, H⟩
  iapply hl
  iapply hw
  isplitl [Hk]
  · iintro H'
    rw [wp_ret]; imodintro
    iapply Hk; iexact H'
  iexact H

end Cert.Proof.VQ

end
-- ==== Proof.Gather.lean ====
/-
  The SparseCore call's task with its values. Task `w = 2 i + c` (subcore `i` of SparseCore `c`) fetches words
  `256 w … 256 w + 255` of the row numbers into its list, gathers those rows of the table into its row buffer by the
  indirect stream, and writes them out to rows `256 w …` of the output. The output's rows end at `gathered`: row `j` is
  the table's row `idx j`.
-/
module

public import proofs.«01_k».proof.Proof.Base

@[expose] public section

noncomputable section

namespace Cert.Proof.VQ

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The buffers -/

abbrev iLoc (d : Dev nD) : Loc nD τ sig := (SparseCore.T d).loc main_v7
abbrev tLoc (d : Dev nD) : Loc nD τ sig := (SparseCore.T d).loc main_v8
abbrev oLoc (d : Dev nD) : Loc nD τ sig := (SparseCore.T d).loc main_v9

local notation "iV" => (Memref.whole Cert.KernelIdeal.main_v7_scv : Memref Cert.KernelIdeal.sig Kind.scVector Space.hbm Cert.KernelIdeal.S8192 EltTy.i32)
local notation "tV" => (Memref.whole Cert.KernelIdeal.main_v8_scv : Memref Cert.KernelIdeal.sig Kind.scVector Space.hbm Cert.KernelIdeal.S8192x128 EltTy.f32)
local notation "oV" => (Memref.whole Cert.KernelIdeal.main_v9_scv : Memref Cert.KernelIdeal.sig Kind.scVector Space.hbm Cert.KernelIdeal.S8192x128 EltTy.f32)
local notation "sV" => (Memref.whole Cert.KernelIdeal.cc1_scratch0 : Memref Cert.KernelIdeal.sig Kind.scVector Space.vmem Cert.KernelIdeal.S256 EltTy.i32)
local notation "rV" => (Memref.whole Cert.KernelIdeal.cc1_scratch1 : Memref Cert.KernelIdeal.sig Kind.scVector Space.vmem Cert.KernelIdeal.S256x128 EltTy.f32)

/-- One row of the row buffer. -/
theorem rowShape_S (h : S8192x128.Gathers 0 S256x128) : S256x128.rowShape h.axis' = ⟨2, ![1, 128]⟩ := by
  unfold Shape.rowShape
  congr 1
  funext b
  match b with
  | 0 => rfl
  | 1 => rfl
theorem row_credit (h : S8192x128.Gathers 0 S256x128) (j) : ((rV).slice (S256x128.rowRect h.axis' j) (S256x128.stride_rowRect h.axis' j)).view.dmaCredit
   = sig.dmaCredit Kind.scVector (Kind.scVector.table cc1_scratch1.space) (rV).view.buf ⟨2, ![1, 128]⟩ .f32 := by
  exact View.dmaCredit_closed _ ⟨2, ![1, 128]⟩ (rowShape_S h) (rV).view.buf rfl _ rfl
/-- The rows' credits are the whole row buffer's. -/
theorem row_sum (h : S8192x128.Gathers 0 S256x128) : ∑ j, ((rV).slice (S256x128.rowRect h.axis' j) (S256x128.stride_rowRect h.axis' j)).view.dmaCredit
      = (rV).view.dmaCredit := by
  rw [Finset.sum_congr rfl fun j _ => row_credit h j, Finset.sum_const, Finset.card_univ, Fintype.card_fin]
  show 256 • _ = _
  decide +kernel
theorem rows_numel_pos : 0 < S256x128.numel := Shape.numel_pos fun a => by match a with | 0 => decide | 1 => decide

theorem odiv : 32 ∣ S8192x128.size 0 := ⟨256, rfl⟩
/-- Rows `256 w …` of the output. -/
abbrev orow (w : Fin 32) : Rect S8192x128 := Rect.part (s := S8192x128) (a₀ := 0) odiv w
abbrev oRowSet (w : Fin 32) : Finset S8192x128.Idx := ((oV).view.slice (orow w)).set

/-! ## What the call reads and leaves -/

-- the row numbers, the table and the output as the call finds them on each device
variable (I : Dev nD → S8192.Idx → BitVec 32) (Tb : Dev nD → S8192x128.Idx → F .f32) (O₀ : Dev nD → S8192x128.Idx → F .f32)

/-- Index `(r, c)` of the table. -/
def tIx (r : Fin 8192) (c : Fin 128) : S8192x128.Idx := fun | 0 => r | 1 => c | ⟨_ + 2, h⟩ => absurd h (Nat.not_lt.2 (Nat.le_add_left _ _))
/-- Index `r` of the list of row numbers. -/
def iIx (r : Fin 8192) : S8192.Idx := fun | 0 => r | ⟨_ + 1, h⟩ => absurd h (Nat.not_lt.2 (Nat.le_add_left _ _))

/-- Every row number names a row of the table. -/
def InRows : Prop := ∀ (d : Dev nD) (j : S8192.Idx), (I d j).toNat < 8192

/-- The gathered rows: row `j` is the table's row `I j`. -/
def gathered (d : Dev nD) : S8192x128.Idx → F .f32 := fun j => Tb d (tIx (Fin.ofNat 8192 (I d (iIx (j 0))).toNat) (j 1))

abbrev iShPts (d : Dev nD) (w : Fin 32) : sProp 𝕄 := iLoc d ↦{shr w} (I d : Buf (Elt F) (iLoc d))
abbrev tShPts (d : Dev nD) (w : Fin 32) : sProp 𝕄 := tLoc d ↦{shr w} (Tb d : Buf (Elt F) (tLoc d))
abbrev oRowPts (d : Dev nD) (w : Fin 32) (f : Buf (Elt F) (oLoc d)) : sProp 𝕄 := oLoc d ↦[oRowSet w]{fullShare} f

/-- What task `w` takes and brings back. -/
abbrev taskIn (d : Dev nD) (w : Fin 32) : sProp 𝕄 := iprop(iShPts I d w ∗ tShPts Tb d w ∗ oRowPts d w (O₀ d : Buf (Elt F) (oLoc d)))
abbrev taskOut (d : Dev nD) (w : Fin 32) : sProp 𝕄 := iprop(iShPts I d w ∗ tShPts Tb d w ∗ oRowPts d w (gathered I Tb d : Buf (Elt F) (oLoc d)))

/-- The number of the task on subcore `i` of SparseCore `c`. -/
abbrev tw (c : Fin ((K (F := F)).nCore 0)) (i : Fin ((K (F := F)).nSub 0)) : Fin 32 :=
  taskEquiv (Fin.cast nCore_zero c, Fin.cast nSub_zero i)

variable [FloatOps F]

/-- A SparseCore takes its sixteen tasks' parts and brings them back. -/
def P : (K (F := F)).Pay (nD := nD) (Val := Elt F) (Name := ℕ) (U := UU) where
  st := fun q d c => match q with | 0 => bigSep Finset.univ fun i => taskIn I Tb O₀ d (tw c i)
  dn := fun q d c => match q with | 0 => bigSep Finset.univ fun i => taskOut I Tb d (tw c i)
  go := fun q d c i => match q with | 0 => taskIn I Tb O₀ d (tw c i)
  td := fun q d c i => match q with | 0 => taskOut I Tb d (tw c i)
  x := fun _ _ => iprop(emp)

instance P_storable : (P (F := F) I Tb O₀).IsStorable where
  st q d c := match q with
    | 0 => (inferInstance : BI.Storable (upEmb : UEmb _ 𝕄) (bigSep Finset.univ fun i => taskIn I Tb O₀ d (tw c i)))
  dn q d c := match q with
    | 0 => (inferInstance : BI.Storable (upEmb : UEmb _ 𝕄) (bigSep Finset.univ fun i => taskOut I Tb d (tw c i)))
  go q d c i := match q with
    | 0 => (inferInstance : BI.Storable (upEmb : UEmb _ 𝕄) (taskIn I Tb O₀ d (tw c i)))
  td q d c i := match q with
    | 0 => (inferInstance : BI.Storable (upEmb : UEmb _ 𝕄) (taskOut I Tb d (tw c i)))

/-! ## The task -/

section Tile

variable (d : Dev nD) (L : grid1.Coords)

abbrev cV (L : grid1.Coords) : Fin τ.nSC := (L 0).castLE hcore1
abbrev jV (L : grid1.Coords) : Fin τ.nSub := (L 1).castLE hsub1
/-- The task's number. -/
abbrev wL (L : grid1.Coords) : Fin 32 := taskEquiv (Fin.cast (show grid1.bound 0 = 2 from rfl) (L 0), Fin.cast (show grid1.bound 1 = 16 from rfl) (L 1))

omit [FloatOps F] in
theorem wL_val : (wL L).val = 2 * (L 1).val + (L 0).val := taskEquiv_val _ _

abbrev irowK (L : grid1.Coords) : Rect S8192 := Rect.unit (s := S8192) (k1_off1 L) S256.size (k1_off1_inb L)
abbrev orowK (L : grid1.Coords) : Rect S8192x128 := Rect.unit (s := S8192x128) (k1_off2 L) S256x128.size (k1_off2_inb L)
abbrev iRowK (L : grid1.Coords) : Memref sig .scVector .hbm S256 .i32 := (iV).slice (irowK L) (fun _ => rfl)
abbrev oRowK (L : grid1.Coords) : Memref sig .scVector .hbm S256x128 .f32 := (oV).slice (orowK L) (fun _ => rfl)
abbrev tAllK : Memref sig .scVector .hbm S8192x128 .f32 := (tV).slice (Rect.unit (s := S8192x128) ![0, 0] S8192x128.size inb_S8192x128_S8192x128_0_0) (fun _ => rfl)

omit [FloatOps F] in
theorem orowK_eq : orowK L = orow (wL L) := by
  unfold orowK orow Rect.part Rect.block
  have h := wL_val L
  congr 1 <;> funext a
  · rw [k1_off2_eq]
    match a with
    | 0 => simp [Shape.partIx, Shape.partSize]; omega
    | 1 => simp [Shape.partIx, Shape.partSize]
  · match a with
    | 0 => simp [Shape.partSize]
    | 1 => simp [Shape.partSize]

omit [FloatOps F] in
theorem set_oRowK : (oRowK L).view.set = oRowSet (wL L) := by
  show ((oV).view.slice (orowK L)).set = ((oV).view.slice (orow (wL L))).set
  exact orowK_eq L ▸ rfl

omit [FloatOps F] in
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
omit [FloatOps F] in
theorem pts_iV (q : PosShare TreeShare) (f : Buf (Elt F) (iLoc d)) :
    ((iV).view.loc (V d (cV L) (jV L)) ↦{q} f : sProp 𝕄) = iLoc d ↦{q} f := rfl
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
omit [FloatOps F] in
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl

omit [FloatOps F] in
theorem set_rV (f : Buf (Elt F) ((V d (cV L) (jV L)).loc cc1_scratch1)) :
    ((rV).view.loc (V d (cV L) (jV L)) ↦{fullShare} f : sProp 𝕄) = (rV).view.loc (V d (cV L) (jV L)) ↦[(rV).view.set]{fullShare} f := by
  rw [show (rV).view.set = Finset.univ from View.set_whole _]
omit [FloatOps F] in
theorem set_sV (f : Buf (Elt F) ((V d (cV L) (jV L)).loc cc1_scratch0)) :
    ((sV).view.loc (V d (cV L) (jV L)) ↦{fullShare} f : sProp 𝕄) = (sV).view.loc (V d (cV L) (jV L)) ↦[(sV).view.set]{fullShare} f := by
  rw [show (sV).view.set = Finset.univ from View.set_whole _]
omit [FloatOps F] in
theorem split_tV (q : PosShare TreeShare) (f : Buf (Elt F) ((tV).view.loc (V d (cV L) (jV L)))) :
    ((tV).view.loc (V d (cV L) (jV L)) ↦{q} f : sProp 𝕄)
      = iprop(((tV).view.loc (V d (cV L) (jV L)) ↦[tAllK.view.set]{q} f) ∗ (tV).view.loc (V d (cV L) (jV L)) ↦[Finset.univ \ tAllK.view.set]{q} f) :=
  BI.Entails.antisymm (pointsTo_split_subset (Finset.subset_univ _)).1 (pointsTo_split_subset (Finset.subset_univ _)).2

abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scratch2.sem)
abbrev cCcell (d : Dev nD) (c : Fin τ.nSC) (i : Fin τ.nSub) : GSem nD τ sig := (V d c i, .dma cc1_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped1.sem : SemLoc sig).isScoped .scVector = true; decide⟩⟩⟩)]

omit [FloatOps F] in
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

omit [FloatOps F] in
/-- What the fetch lands in the list: word `x` is the row number at place `x` of the task's run. -/
theorem list_eq (fs : Buf (Elt F) ((V d (cV L) (jV L)).loc cc1_scratch0)) (x : S256.Idx) :
    (sV).view.read (Elt F) (View.write (Elt F) (sV).view fs ((iRowK L).view.read (Elt F) (I d)) Finset.univ) x = I d ((irowK L).emb x) := by
  rw [View.write_whole_univ]
  simp only [Memref.view_whole, View.read_whole]
  exact (View.read_apply _ _).trans (cast_eq _ _)

omit [FloatOps F] in
/-- The offsets the stream reads are in range. -/
theorem list_inb (hI : InRows I) (fs : Buf (Elt F) ((V d (cV L) (jV L)).loc cc1_scratch0)) (pay : S256.Idx → Elt F .i32)
    (hpay : pay = (iRowK L).view.read (Elt F) (I d)) :
    ∀ x, ((sV).view.read (Elt F) (View.write (Elt F) (sV).view fs pay Finset.univ) x).toNat < S8192x128.size gathers_S8192x128_S256x128.axis := by
  subst hpay; intro x
  rw [list_eq I d L fs x]
  exact hI d _

omit [FloatOps F] in
/-- The stream's payload: place `y` of the row buffer is the table at row `I (256 w + y 0)`, column `y 1`. -/
theorem payload_eq (hI : InRows I) (fs : Buf (Elt F) ((V d (cV L) (jV L)).loc cc1_scratch0)) (pay : S256.Idx → Elt F .i32)
    (hpay : pay = (iRowK L).view.read (Elt F) (I d)) (hn : S256.numel = 256) (y : S256x128.Idx) :
    SparseCore.gatherPayload gathers_S8192x128_S256x128 (tAllK.view.read (Elt F) (Tb d))
        (SparseCore.rows ((sV).view.read (Elt F) (View.write (Elt F) (sV).view fs pay Finset.univ)) hn (list_inb I d L hI fs pay hpay)) y
      = gathered I Tb d ((orowK L).emb y) := by
  subst hpay
  unfold SparseCore.gatherPayload gathered
  have hread : ∀ j, tAllK.view.read (Elt F) (Tb d) j = Tb d j := fun j =>
    ((View.read_apply _ _).trans (cast_eq _ _)).trans (congrArg (Tb d) (by
      funext a
      match a with
      | 0 => exact Fin.ext (show 0 + 1 * (j 0).val = (j 0).val by omega)
      | 1 => exact Fin.ext (show 0 + 1 * (j 1).val = (j 1).val by omega)))
  rw [hread]
  congr 1
  have hrow : ∀ k : Fin 256, (S256.rowMajor.symm (k.cast hn.symm) 0).val = k.val := fun k => by
    have e := Shape.rowMajor_val_one (d := ![256]) (S256.rowMajor.symm (k.cast hn.symm))
    rw [← e, Equiv.apply_symm_apply]; rfl
  have hlist : ∀ k : Fin 256, (irowK L).emb (S256.rowMajor.symm (k.cast hn.symm)) = iIx ((orowK L).emb y 0) ↔ k.val = (y 0).val := fun k => by
    have hk := hrow k
    have e1 : ((irowK L).emb (S256.rowMajor.symm (k.cast hn.symm)) 0).val = k1_off1 L 0 + 1 * (S256.rowMajor.symm (k.cast hn.symm) 0).val := rfl
    have e2 : ((orowK L).emb y 0).val = k1_off2 L 0 + 1 * (y 0).val := rfl
    rw [k1_off1_eq] at e1; rw [k1_off2_eq] at e2
    constructor
    · intro h
      have h0 : ((irowK L).emb (S256.rowMajor.symm (k.cast hn.symm)) 0).val = ((orowK L).emb y 0).val := congrArg (fun z : S8192.Idx => (z 0).val) h
      rw [e1, e2, hk] at h0; simp at h0; exact h0
    · intro h
      funext a
      match a with
      | 0 => apply Fin.ext; show ((irowK L).emb _ 0).val = ((orowK L).emb y 0).val; rw [e1, e2, hk, h]; rfl
  funext b
  match b with
  | 0 =>
    refine (Shape.Gathers.idx_axis gathers_S8192x128_S256x128 _ y).trans ?_
    apply Fin.ext
    show (((sV).view.read (Elt F) _ _)).toNat = ((I d (iIx ((orowK L).emb y 0))).toNat) % 8192
    rw [list_eq]
    exact (congrArg (fun z => (I d z).toNat) ((hlist (y 0)).mpr rfl)).trans (Nat.mod_eq_of_lt (hI d _)).symm
  | 1 =>
    apply Fin.ext
    refine (Shape.Gathers.idx_of_ne gathers_S8192x128_S256x128 _ y 1 (by decide)).trans ?_
    show (y 1).val = k1_off2 L 1 + 1 * (y 1).val
    rw [k1_off2_eq]; simp

omit [FloatOps F] in
/-- What the write-out leaves on the task's rows. -/
theorem rows_eq (fo : Buf (Elt F) (oLoc d)) (pay : S256x128.Idx → Elt F .f32)
    (hpay : ∀ y, pay y = gathered I Tb d ((orowK L).emb y)) :
    ((oRowK L).view.loc (V d (cV L) (jV L)) ↦[(oRowK L).view.set]{fullShare} (oRowK L).view.writes (Elt F) fo [⟨Rect.whole S256x128, pay⟩] : sProp 𝕄)
      = oLoc d ↦[oRowSet (wL L)]{fullShare} (gathered I Tb d : Buf (Elt F) (oLoc d)) := by
  rw [← pts_oRowK]
  refine pointsTo_congr fun x hx => ?_
  obtain ⟨y, -, rfl⟩ := Finset.mem_map.mp hx
  have h := congrFun (View.read_writes_whole (Val := Elt F) (oRowK L).view fo pay) y
  rw [View.read_apply, cast_eq, hpay] at h
  exact h

set_option maxHeartbeats 4000000 in
/-- The task on vector subcore `(L 0, L 1)`: the fetch of its row numbers and its wait, the indirect gather and its wait,
    the write-out and its wait. -/
theorem tile_body (hF : (K (F := F)).Facts) (hI : InRows I) (O : CellTallies nD τ sig (HIx 1)) (W : Waits sig (HIx 1)) (hO : ∀ g, O g none = 0) :
    iprop(levAts (K (F := F)).L (K (F := F)).lev ∗ emp
        ∗ taskIn I Tb O₀ d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_body L iV (Memref.isWhole_whole _) tV (Memref.isWhole_whole _) oV (Memref.isWhole_whole _)
            sV (Memref.isWhole_whole _) rV (Memref.isWhole_whole _) cc1_scratch2 cc1_scoped0 cc1_scoped1)
          fun _ => iprop(taskOut I Tb d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_gather_body_eq_skeleton]; unfold cc1__sc_gather_body_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iV (F := F) d L _ _).symm) $$ Hi
  ihave Ho' := (Entails.of_eq (pts_oRowK (F := F) d L _).symm) $$ Ho
  ihave Ht' := (Entails.of_eq (pts_tV (F := F) d L _ _).symm) $$ Ht
  ihave Hs' := (Entails.of_eq (pts_sV (F := F) d L _).symm) $$ Hs
  ihave Hr' := (Entails.of_eq (pts_rV (F := F) d L _).symm) $$ Hr
  sl_exec
  ihave Hts := (Entails.of_eq (split_tV (F := F) d L _ _)) $$ Ht'
  icases Hts with ⟨Hts, Htr⟩
  ihave Hr'' := (Entails.of_eq (set_rV (F := F) d L _)) $$ Hr'
  ihave Hs'' := (Entails.of_eq (set_sV (F := F) d L _)) $$ Hs'
  iapply (SparseCore.wp_indirectGatherLocal countersEmb 𝒱₀ (V d (cV L) (jV L)) none (hg := gathers_S8192x128_S256x128) (default : HIx 1)
      (rV).view.dmaCredit (row_sum _) rows_numel_pos (list_inb I d L hI fs _ rfl)) $$ [Hts Hr'' Hs'' HsemB]
  · isplitl [Hts]; · iexact Hts
    isplitl [Hr'']; · iexact Hr''
    isplitl [Hs'']; · iexact Hs''
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Hts, Hs'⟩, HsemB, HO⟩
  ihave Ht' := (Entails.of_eq (split_tV (F := F) d L _ _).symm) $$ [Hts Htr]
  · isplitl [Hts] <;> iassumption
  ihave Hr3 := (Entails.of_eq (set_rV (F := F) d L _).symm) $$ Hr'
  ihave Hs3 := (Entails.of_eq (set_sV (F := F) d L _).symm) $$ Hs'
  sl_exec
  sl_step
  isplitl [Hi' Ht' Ho']
  · isplitl [Hi']; · iexact Hi'
    isplitl [Ht']; · iexact Ht'
    iapply (Entails.of_eq (rows_eq I Tb d L _ (tile_body.sl.dma0_1 I Tb d L hI fs fr) (fun y => by
      unfold tile_body.sl.dma0_1
      rw [View.read_write_univ]
      exact payload_eq I Tb d L hI fs _ rfl _ y)))
    iexact Ho'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_gather_body (coordsV c s)
          iV (Memref.isWhole_whole _) tV (Memref.isWhole_whole _) oV (Memref.isWhole_whole _)
          sV (Memref.isWhole_whole _) rV (Memref.isWhole_whole _) cc1_scratch2 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hI : InRows I) : (K (F := F)).TileObl (D (F := F)) 𝒱 (P I Tb O₀) v₀ 0 := by
  intro d c i O W hO _ _
  simp only [show (P I Tb O₀).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body I Tb O₀ d (coordsV ⟨_, hci.1⟩ ⟨_, hci.2⟩) hF hI O W hO).trans (wp_mono frame _ _ fun _ => obl_post)

end Tile

/-! ## The split among tasks and the whole call's operands -/

theorem vecSplit : (K (F := F)).VecSplit' (P I Tb O₀) 0 := by
  intro d c
  show (bigSep Finset.univ fun i => taskIn I Tb O₀ d (tw c i)) ⊢ |={Set.univ}=> iprop((bigSep Finset.univ fun i => taskIn I Tb O₀ d (tw c i))
    ∗ ((bigSep Finset.univ fun i => taskOut I Tb d (tw c i)) -∗ bigSep Finset.univ fun i => taskOut I Tb d (tw c i)))
  iintro H
  imodintro
  isplitl [H]; · iexact H
  iintro H; iexact H

omit [FloatOps F] in
theorem oRowSet_eq (w : Fin 32) : oRowSet w = (orow w).set := by
  show ((View.whole (main_v9_scv : Ref sig .scVector)).slice (orow w)).set = _
  rw [View.set_slice]; exact Finset.map_refl

omit [FloatOps F] in
/-- The output whole is its 32 runs of rows. -/
theorem out_rows (d : Dev nD) (f : Buf (Elt F) (oLoc d)) :
    (oLoc d ↦{fullShare} f : sProp 𝕄) = bigSep Finset.univ fun w : Fin 32 => oRowPts d w f := by
  rw [← pointsTo_biUnion (ℓ := oLoc d) (q := fullShare) (f := f) Finset.univ oRowSet
    (fun w _ w' _ h => by rw [oRowSet_eq, oRowSet_eq]; exact Rect.part_disjoint odiv h)]
  rw [show (Finset.univ : Finset (Fin 32)).biUnion oRowSet = Finset.univ from
    (Finset.biUnion_congr rfl fun w _ => oRowSet_eq w).trans (Rect.biUnion_part odiv)]

omit [FloatOps F] in
/-- The row numbers, the table and the output whole are the 32 tasks' parts. -/
theorem whole_tasks (d : Dev nD) (f : Buf (Elt F) (oLoc d)) :
    (iprop((iLoc d ↦{fullShare} (I d : Buf (Elt F) (iLoc d))) ∗ (tLoc d ↦{fullShare} (Tb d : Buf (Elt F) (tLoc d))) ∗ oLoc d ↦{fullShare} f) : sProp 𝕄)
      = bigSep Finset.univ fun w : Fin 32 => iprop(iShPts I d w ∗ tShPts Tb d w ∗ oRowPts d w f) := by
  rw [bigSep_sep', bigSep_sep', ← out_rows, ← pointsTo_shr, ← pointsTo_shr]

theorem st0_eq (d : Dev nD) :
    (bigSep Finset.univ fun c : Fin ((K (F := F)).nCore 0) => (P I Tb O₀).st 0 d c)
      = (iprop((iLoc d ↦{fullShare} (I d : Buf (Elt F) (iLoc d))) ∗ (tLoc d ↦{fullShare} (Tb d : Buf (Elt F) (tLoc d))) ∗ oLoc d ↦{fullShare} (O₀ d : Buf (Elt F) (oLoc d))) : sProp 𝕄) := by
  rw [whole_tasks, bigSep_tasks]; rfl

theorem dn0_eq (d : Dev nD) :
    (bigSep Finset.univ fun c : Fin ((K (F := F)).nCore 0) => (P I Tb O₀).dn 0 d c)
      = (iprop((iLoc d ↦{fullShare} (I d : Buf (Elt F) (iLoc d))) ∗ (tLoc d ↦{fullShare} (Tb d : Buf (Elt F) (tLoc d))) ∗ oLoc d ↦{fullShare} (gathered I Tb d : Buf (Elt F) (oLoc d))) : sProp 𝕄) := by
  rw [whole_tasks, bigSep_tasks]; rfl

end Cert.Proof.VQ

end
-- ==== Proof.Main.lean ====
/-
  The whole program's run: the host operations, the TensorCore call, the SparseCore call between them, to the final
  contents of every unscoped buffer.
-/
module

public import proofs.«01_k».proof.Proof.Seg
public import proofs.«01_k».proof.Proof.Gather

@[expose] public section

noncomputable section

namespace Cert.Proof.VQ

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.TcCoe

variable {F : FTy → Type} [FloatOps F]

local notation "𝕄" => MT nD τ sig (HIx 1) (Elt F) ℕ UU ℕ

/-! ## The host operations, in three runs -/

/-- The host operations before the TensorCore call. -/
def opsA : List (HloOp τ sig (Elt F)) := [
  (StableHlo.binary main_arg0 main_arg0 main_v0 (mulf : (⟨S8x32x32x32, .f32⟩ : BufTy).Contents (Elt F) → (⟨S8x32x32x32, .f32⟩ : BufTy).Contents (Elt F) → (⟨S8x32x32x32, .f32⟩ : BufTy).Contents (Elt F))),
  (StableHlo.nullary main_cst (constant S_ .f32 0x00000000#32)),
  (StableHlo.binary main_v0 main_cst main_v1 ((fun x v => Host.reduceAdd x v reducesTo_S8x32x32x32_S8x32x32_d1 h_S_) : (⟨S8x32x32x32, .f32⟩ : BufTy).Contents (Elt F) → (⟨S_, .f32⟩ : BufTy).Contents (Elt F) → (⟨S8x32x32, .f32⟩ : BufTy).Contents (Elt F))),
  (StableHlo.reshape main_v1 main_v2 (rfl : (.f32 : EltTy) = .f32) shapeCasts_S8x32x32_S8192x1),
  (StableHlo.binary main_arg1 main_arg1 main_v3 (mulf : (⟨S8192x32, .f32⟩ : BufTy).Contents (Elt F) → (⟨S8192x32, .f32⟩ : BufTy).Contents (Elt F) → (⟨S8192x32, .f32⟩ : BufTy).Contents (Elt F))),
  (StableHlo.nullary main_cst_0 (constant S_ .f32 0x00000000#32)),
  (StableHlo.binary main_v3 main_cst_0 main_v4 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F))),
  (StableHlo.reshape main_v4 main_v5 (rfl : (.f32 : EltTy) = .f32) shapeCasts_S8192_S1x8192)]

theorem opsA_sub : (opsA (F := F)).Forall fun op => op.bufs ⊆ StableHlo.tcRefs τ sig :=
  ⟨StableHlo.binary_bufs_sub .., StableHlo.nullary_bufs_sub .., StableHlo.binary_bufs_sub .., StableHlo.reshape_bufs_sub .., StableHlo.binary_bufs_sub .., StableHlo.nullary_bufs_sub .., StableHlo.binary_bufs_sub .., StableHlo.reshape_bufs_sub ..⟩
theorem opsA_fresh : (opsA (F := F)).Forall fun op => op.fresh = ∅ := ⟨rfl, rfl, rfl, rfl, rfl, rfl, rfl, rfl⟩

/-- The host operations between the two calls. -/
def opsB : List (HloOp τ sig (Elt F)) := [
  (StableHlo.reshape main_v6_1 main_v7 (rfl : (.i32 : EltTy) = .i32) shapeCasts_S16x1x512_S8192),
  (StableHlo.nullary main_c (constantI S_ 32 0#32)),
  (StableHlo.TRef.unary (.of main_c : StableHlo.TRef sig ⟨S_, .i32⟩) main_call0.v0 (sitofp .f32)),
  (StableHlo.TRef.binary (.of main_arg1 : StableHlo.TRef sig ⟨S8192x32, .f32⟩) main_call0.v0 main_call0.v1 (fun x v => pad S8192x128 ![0, 0] ![0, 96] ![0, 0] x v pads_S8192x32_S8192x128_000_0960 h_S_))]

theorem opsB_sub : (opsB (F := F)).Forall fun op => op.bufs ⊆ StableHlo.tcRefs τ sig :=
  ⟨StableHlo.reshape_bufs_sub .., StableHlo.nullary_bufs_sub .., StableHlo.unary_bufs_sub .., StableHlo.binary_bufs_sub ..⟩
theorem opsB_fresh : (opsB (F := F)).Forall fun op => op.fresh = ∅ := ⟨rfl, rfl, rfl, rfl⟩

/-- The host operations after the SparseCore call. -/
def opsC : List (HloOp τ sig (Elt F)) := [
  (StableHlo.unary main_v9 main_v10 ((extractStridedSlice S8192x32 ![0, 0] · slices_S8192x128_S8192x32_0_0) : (⟨S8192x128, .f32⟩ : BufTy).Contents (Elt F) → (⟨S8192x32, .f32⟩ : BufTy).Contents (Elt F))),
  (StableHlo.reshape main_v10 main_v11 (rfl : (.f32 : EltTy) = .f32) shapeCasts_S8192x32_S8x32x32x32),
  (StableHlo.unary main_v11 main_v12 ((transpose S8x32x32x32 [0, 3, 1, 2] · transposes_S8x32x32x32_S8x32x32x32_0_3_1_2) : (⟨S8x32x32x32, .f32⟩ : BufTy).Contents (Elt F) → (⟨S8x32x32x32, .f32⟩ : BufTy).Contents (Elt F))),
  (StableHlo.reshape main_v6_2 main_v13 (rfl : (.f32 : EltTy) = .f32) shapeCasts_S1x1_S_),
  (StableHlo.reshape main_v6_3 main_v14 (rfl : (.f32 : EltTy) = .f32) shapeCasts_S1x1_S_)]

theorem opsC_sub : (opsC (F := F)).Forall fun op => op.bufs ⊆ StableHlo.tcRefs τ sig :=
  ⟨StableHlo.unary_bufs_sub .., StableHlo.reshape_bufs_sub .., StableHlo.unary_bufs_sub .., StableHlo.reshape_bufs_sub .., StableHlo.reshape_bufs_sub ..⟩
theorem opsC_fresh : (opsC (F := F)).Forall fun op => op.fresh = ∅ := ⟨rfl, rfl, rfl, rfl, rfl⟩

theorem main_eq (d : Dev nD) : (main (F := F) d)
    = (StableHlo.seq opsA >>= fun _ => Prog.lift (.customCall (SparseCore.inner (Pipeline.entry 0)) ()) >>= fun _ =>
        StableHlo.seq opsB >>= fun _ => sc.run d 0 >>= fun _ => StableHlo.seq opsC >>= fun _ => pure ⟨⟩) := rfl

/-! ## The valuations -/

variable (m : (ℓ : Loc nD τ sig) → Buf (Elt F) ℓ) (ρ : Dev nD → PrngReg)

/-- Before the TensorCore call. -/
def V1 (d : Dev nD) : Valuation τ sig (Elt F) := StableHlo.after opsA fun b => m (d, b)
/-- After it. -/
abbrev V2 (d : Dev nD) : Valuation τ sig (Elt F) := afterTc (V1 m) d
/-- Before the SparseCore call. -/
def V3 (d : Dev nD) : Valuation τ sig (Elt F) := StableHlo.after opsB (V2 m d)
/-- The indices, the table and the output's contents the SparseCore call starts from. -/
abbrev scI (d : Dev nD) : S8192.Idx → BitVec 32 := V3 m d (main_v7 : DevRef τ sig)
abbrev scT (d : Dev nD) : S8192x128.Idx → F .f32 := V3 m d (main_v8 : DevRef τ sig)
abbrev scO (d : Dev nD) : S8192x128.Idx → F .f32 := V3 m d (main_v9 : DevRef τ sig)
/-- After the SparseCore call. -/
def V4 (d : Dev nD) : Valuation τ sig (Elt F) := Function.update (V3 m d) (main_v9 : DevRef τ sig) (gathered (scI m) (scT m) d)
/-- At the end. -/
def V5 (d : Dev nD) : Valuation τ sig (Elt F) := StableHlo.after opsC (V4 m d)

/-- The three arrays the SparseCore call works on. -/
abbrev scRefs : Finset (DevRef τ sig) := {(main_v7 : DevRef τ sig), (main_v8 : DevRef τ sig), (main_v9 : DevRef τ sig)}

theorem scRefs_sub : scRefs ⊆ Pipeline.ucRefs τ sig := by decide

theorem held_scRefs (d : Dev nD) (W : Valuation τ sig (Elt F)) :
    (StableHlo.held (T d) scRefs W : sProp 𝕄)
      = iprop((iLoc d ↦{fullShare} (W (main_v7 : DevRef τ sig) : Buf (Elt F) (iLoc d))) ∗ (tLoc d ↦{fullShare} (W (main_v8 : DevRef τ sig) : Buf (Elt F) (tLoc d)))
          ∗ oLoc d ↦{fullShare} (W (main_v9 : DevRef τ sig) : Buf (Elt F) (oLoc d))) := by
  unfold StableHlo.held scRefs
  rw [SparseCore.bigSep_insert' (by decide), SparseCore.bigSep_insert' (by decide), bigSep_singleton]

theorem held_rest (d : Dev nD) :
    (StableHlo.held (T d) (Pipeline.ucRefs τ sig \ scRefs) (V3 m d) : sProp 𝕄) = StableHlo.held (T d) (Pipeline.ucRefs τ sig \ scRefs) (V4 m d) :=
  StableHlo.held_congr _ fun b hb => (Function.update_of_ne (fun h => (Finset.mem_sdiff.mp hb).2 (by rw [h]; decide)) _ _).symm

theorem V4_idx (d : Dev nD) : V4 m d (main_v7 : DevRef τ sig) = scI m d := Function.update_of_ne (by decide) _ _
theorem V4_tab (d : Dev nD) : V4 m d (main_v8 : DevRef τ sig) = scT m d := Function.update_of_ne (by decide) _ _
theorem V4_out (d : Dev nD) : V4 m d (main_v9 : DevRef τ sig) = gathered (scI m) (scT m) d := Function.update_self _ _ _

/-! ## The launch's ghost state -/

def u₀ : UU := (initOf (K (F := F)).hsCells (K (F := F)).hsToks,
  (initOf (Pipeline.cells (Pipeline.pin (pcfgs (F := F)) adm) pins_inj) (Pipeline.launchToks (Pipeline.pin (pcfgs (F := F)) adm) pins_inj), 1))

theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- The region's ghost state of device `d`. -/
def tcGhost (d : Dev nD) : sProp 𝕄 :=
  iprop(Pipeline.cellsGhost (Pipeline.pin (pcfgs (F := F)) adm) EP 0 d ∗ Pipeline.toksInit (Pipeline.pin (pcfgs (F := F)) adm) EP 0 d)

theorem ghost_deal : iprop((bigSep Finset.univ fun c : Dev nD => bigSep Finset.univ fun p => Pipeline.cellsGhost (Pipeline.pin (pcfgs (F := F)) adm) EP p c)
      ∗ (bigSep Finset.univ fun c : Dev nD => bigSep Finset.univ fun p => (Pipeline.toksInit (Pipeline.pin (pcfgs (F := F)) adm) EP p c : sProp 𝕄)))
    ⊢ bigSep Finset.univ fun d : Dev nD => tcGhost (F := F) d := by
  rw [← bigSep_sep']
  refine bigSep_mono fun c _ => ?_
  rw [bigSep_univ_of_subsingleton (0 : Fin 1), bigSep_univ_of_subsingleton (0 : Fin 1)]
  exact BI.Entails.refl _

theorem emp_family {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => tcGhost (F := F) d)
        ∗ bigSep Finset.univ fun thr : Thread nD τ => bigSep Finset.univ fun q : Fin 1 => (P (scI m) (scT m) (scO m)).x q thr) := by
  unfold u₀
  iintro Hu
  ihave H := (ownU_split _ _) $$ Hu
  icases H with ⟨HH, HP⟩
  imod (Pipeline.fund_ghost (Pipeline.pin (pcfgs (F := F)) adm) EP pins_inj) $$ HP with ⟨Hg, Ht⟩
  imodintro
  isplitl [HH]; · iexact HH
  isplitl [Hg Ht]
  · iapply (ghost_deal (F := F)); isplitl [Hg] <;> iassumption
  rw [show (bigSep Finset.univ fun thr : Thread nD τ => bigSep Finset.univ fun q : Fin 1 => (P (scI m) (scT m) (scO m)).x q thr) = (bigSep Finset.univ fun _ => iprop(emp) : sProp 𝕄) from
    bigSep_congr fun _ _ => bigSep_univ_of_subsingleton (0 : Fin 1), emp_family]
  iempintro

/-! ## Main on the TensorCore -/

theorem launch_held (d : Dev nD) : (unscopedBufs d (fun b => m ((SparseCore.T d).loc b)) : sProp 𝕄) = StableHlo.held (T d) (Pipeline.ucRefs τ sig) (fun b => m (d, b)) := by
  unfold unscopedBufs StableHlo.held Pipeline.ucRefs StableHlo.tcRefs
  rw [Finset.filter_map, bigSep_map]
  rfl

abbrev FIN (d : Dev nD) : sProp 𝕄 := StableHlo.held (T d) (Pipeline.ucRefs τ sig) (V5 m d)

theorem hmain (κ : GSem nD τ sig → ℕ) (d : Dev nD) :
    iprop((K (F := F)).ctx EH (P (scI m) (scT m) (scO m)) κ ∗ (K (F := F)).tcSt EH d 0 ∗ (K (F := F)).tcRes m ρ d ∗ tcGhost (F := F) d)
      ⊢ wp frame (wpE ((K (F := F)).defs D) 𝒱 (T d) none) Set.univ (main d)
          fun _ => iprop((K (F := F)).tcSt EH d 1 ∗ FIN m d ∗ (K (F := F)).tcEnd d) := by
  unfold SparseCore.Cfg.tcRes SparseCore.Cfg.tcEnd
  rw [main_eq, launch_held]
  iintro ⟨#Hctx, Hst, ⟨Hb, Hheld, Hts, -⟩, HG⟩
  iapply (StableHlo.wp_seq 𝒱 none Set.univ d (Pipeline.ucRefs τ sig) _ opsA
    (fun op h => Pipeline.sub_ucRefs op ((List.forall_iff_forall_mem.mp opsA_sub) op h))
    (fun op h => (List.forall_iff_forall_mem.mp opsA_fresh) op h) _) $$ [Hb Hheld]
  · isplitl [Hb] <;> iassumption
  iintro ⟨Hb, Hheld⟩
  -- the TensorCore call
  unfold SparseCore.Cfg.tcSt
  icases Hst with ⟨HO, Hst'⟩
  ihave #Hlev := ((K (F := F)).ctx_levAts κ) $$ Hctx
  rw [wp_bind]
  unfold tcGhost
  icases HG with ⟨Hg, Ht⟩
  iapply (wp_tcCall (V1 m) d _)
  isplitr [Hb Hheld HO Hg Ht]
  rotate_left
  · isplitl [Hb]; · iexact Hb
    isplitl [Hheld HO]
    · isplitl [Hheld]
      · iapply (Entails.of_eq (Pipeline.unscopedBufs_held d (V1 m d)).symm); iexact Hheld
      unfold owing; iexact HO
    isplitr; · iexact Hlev
    isplitl [Hg] <;> iassumption
  iintro ⟨Hb, Hub, HO⟩
  ihave Hheld := (Entails.of_eq (Pipeline.unscopedBufs_held d (afterTc (V1 m) d))) $$ Hub
  unfold owing
  iapply (StableHlo.wp_seq 𝒱 none Set.univ d (Pipeline.ucRefs τ sig) _ opsB
    (fun op h => Pipeline.sub_ucRefs op ((List.forall_iff_forall_mem.mp opsB_sub) op h))
    (fun op h => (List.forall_iff_forall_mem.mp opsB_fresh) op h) (V2 m d)) $$ [Hb Hheld]
  · isplitl [Hb] <;> iassumption
  iintro ⟨Hb, Hheld⟩
  -- the SparseCore call
  rw [show StableHlo.after opsB (V2 m d) = V3 m d from rfl]
  ihave Hheld := (Entails.of_eq (StableHlo.held_sub_split _ scRefs_sub (V3 m d))) $$ Hheld
  icases Hheld with ⟨Hsc, Hrest⟩
  ihave Hsc := (Entails.of_eq (held_scRefs d (V3 m d))) $$ Hsc
  rw [wp_bind]
  iapply ((K (F := F)).wp_run D 𝒱 (EH := EH) (P := P (scI m) (scT m) (scO m)) κ d 0)
  isplitr; · iexact Hctx
  isplitl [HO Hst']
  · unfold SparseCore.Cfg.tcSt
    isplitl [HO]; · iexact HO
    iexact Hst'
  isplitl [Hsc]
  · rw [st0_eq]; iexact Hsc
  iintro ⟨Hst, Hdn⟩
  ihave Hdn := (Entails.of_eq (dn0_eq (scI m) (scT m) (scO m) d)) $$ Hdn
  ihave Hrest := (Entails.of_eq (held_rest m d)) $$ Hrest
  iapply (StableHlo.wp_seq 𝒱 none Set.univ d (Pipeline.ucRefs τ sig) _ opsC
    (fun op h => Pipeline.sub_ucRefs op ((List.forall_iff_forall_mem.mp opsC_sub) op h))
    (fun op h => (List.forall_iff_forall_mem.mp opsC_fresh) op h) (V4 m d)) $$ [Hb Hdn Hrest]
  · isplitl [Hb]; · iexact Hb
    iapply (Entails.of_eq (StableHlo.held_sub_split _ scRefs_sub (V4 m d)).symm)
    isplitl [Hdn]
    · rw [held_scRefs, V4_idx, V4_tab, V4_out]; iexact Hdn
    iexact Hrest
  iintro ⟨Hb, Hheld⟩
  rw [wp_pure, show StableHlo.after opsC (V4 m d) = V5 m d from rfl]; imodintro
  rw [show (((0 : Fin 1) : ℕ) + 1) = 1 from rfl]
  unfold SparseCore.Cfg.tcSt
  isplitl [Hst]; · iexact Hst
  isplitl [Hheld]; · iexact Hheld
  isplitl [Hb] <;> iassumption

/-- What the claims read of device `d`'s final state. -/
def fq (d : Dev nD) (s' : Phys nD τ sig (Elt F)) : Prop := ∀ b ∈ Pipeline.ucRefs τ sig, s'.mem.mem (d, b) = V5 m d b

theorem hfin (d : Dev nD) (s' : Phys nD τ sig (Elt F)) : iprop(FIN m d ∗ SI s') ⊢ (⌜fq m d s'⌝ : sProp 𝕄) := by
  iintro ⟨H, HSI⟩
  unfold FIN StableHlo.held
  ihave %h := (SI_pointsTo_bufs_agree (qs := fun _ => fullShare) (Pipeline.ucRefs τ sig)) $$ [HSI H]
  · isplitl [HSI] <;> iassumption
  ipureintro; exact h

/-- The run: every unscoped buffer ends at `V5`, every counter at zero; the indices the SparseCore call reads in range. -/
theorem run_main [∀ e, Nonempty (Elt F e)] (hI : InRows (scI m)) :
    θ_run (Cert.KernelIdeal.defs (F := F)) (Cert.KernelIdeal.threads (F := F)) ⟨m, fun _ => 0, ρ⟩
      (fun r => (∀ d : Dev nD, ∀ b ∈ Pipeline.ucRefs τ sig, r.2.mem (d, b) = V5 m d b) ∧ r.2.sem = fun _ => 0) :=
  SparseCore.Cfg.θ_run_sc_quiescent (K := K (F := F)) (D := D (F := F)) (𝒱 := 𝒱) (EH := EH) (P := P (scI m) (scT m) (scO m)) (A := ∅) scFacts v₀
    (fun q hq => match q with | 0 => nomatch hq)
    (fun q _ => match q with | 0 => tileObl (scI m) (scT m) (scO m) scFacts hI)
    (fun q _ => match q with | 0 => SparseCore.Cfg.VecSplit.of_plain (vecSplit (scI m) (scT m) (scO m)))
    m ρ main (fun d => tcGhost (F := F) d) (FIN m) (u₀ (F := F)) (sep_elim_left.trans (hu₀ m)) (hmain m ρ) (fq m) (hfin m) _ (fun _ h hz => ⟨h, hz⟩)

end Cert.Proof.VQ

end
-- ==== Proof.Argmin.lean ====
/-
  The index of the first least value of a row of extended reals, and the three ways it is computed: the least value by a
  fold of `min` from `+∞`, the least index holding it by a fold of the signed minimum of words, and a fold of a
  lexicographic reducer over (value, index) pairs.
-/
module

public import proofs.«01_k».proof.Proof.Gen.ReferenceIdeal
public import Idealize.ShloMosaic.PureOps.Ideal.Laws
public import Idealize.ShloMosaic.PureOps.Reduce
public import Idealize.ShloMosaic.Lib.SortNet.Extract
public import Idealize.ShloMosaic.Lib.ValueIdx
public import Idealize.ShloMosaic.Lib.ValueIdxCoords

@[expose] public section

noncomputable section

namespace Cert.Proof.VQ

open Idealize.ShloMosaic Idealize.ShloMosaic.ValueIdx

/-- `k` is the first index at which `f` takes its least value. -/
def IsFirstMin {n : ℕ} (f : Fin n → EReal) (k : Fin n) : Prop := (∀ j, f k ≤ f j) ∧ ∀ j, j < k → f k < f j

theorem exists_isFirstMin {n : ℕ} (hn : 0 < n) (f : Fin n → EReal) : ∃ k, IsFirstMin f k := by
  haveI : Nonempty (Fin n) := ⟨⟨0, hn⟩⟩
  obtain ⟨k0, h0⟩ := Finite.exists_min f
  have hne : (Finset.univ.filter fun k => ∀ j, f k ≤ f j).Nonempty := ⟨k0, by simpa using h0⟩
  refine ⟨(Finset.univ.filter fun k => ∀ j, f k ≤ f j).min' hne, ?_, fun j hj => ?_⟩
  · have := Finset.min'_mem _ hne
    exact (Finset.mem_filter.1 this).2
  · have hm := (Finset.mem_filter.1 (Finset.min'_mem _ hne)).2
    refine lt_of_le_of_ne (hm j) fun e => ?_
    have hj' : j ∈ Finset.univ.filter fun k => ∀ j, f k ≤ f j :=
      Finset.mem_filter.2 ⟨Finset.mem_univ _, fun i => e ▸ hm i⟩
    exact absurd (Finset.min'_le _ j hj') (not_le.2 hj)

/-- The first index of the least of 8192 values. -/
def firstMin (f : Fin 8192 → EReal) : Fin 8192 := (exists_isFirstMin (by decide) f).choose

theorem firstMin_spec (f : Fin 8192 → EReal) : IsFirstMin f (firstMin f) := (exists_isFirstMin (by decide) f).choose_spec

/-- A fold of `min` from `+∞` is the value at the first least index. -/
theorem fold_min_eq (f : Fin 8192 → EReal) : (Finset.univ : Finset (Fin 8192)).fold min ⊤ f = f (firstMin f) :=
  le_antisymm (Finset.fold_min_le _ |>.2 (.inr ⟨firstMin f, Finset.mem_univ _, le_rfl⟩))
    (Finset.le_fold_min _ |>.2 ⟨le_top, fun x _ => (firstMin_spec f).1 x⟩)

/-- A fold of the signed minimum over words is any one of them that is least. -/
theorem fold_minsi_eq {ι : Type} (s : Finset ι) (g : ι → BitVec 32) (init w : BitVec 32)
    (hw : ∃ x ∈ s, g x = w) (hle : ∀ x ∈ s, w.toInt ≤ (g x).toInt) (h0 : w.toInt ≤ init.toInt) :
    s.fold IntOp.minsi init g = w := by
  apply BitVec.eq_of_toInt_eq
  have e : (s.fold IntOp.minsi init g).toInt = s.fold min init.toInt (fun x => (g x).toInt) :=
    (Finset.fold_hom (op := IntOp.minsi) (op' := (min : ℤ → ℤ → ℤ)) (m := BitVec.toInt)
      (fun a b => (SortNet.toInt_minsi a b))).symm
  rw [e]
  obtain ⟨x, hx, rfl⟩ := hw
  exact le_antisymm ((Finset.fold_min_le _).2 (.inr ⟨x, hx, le_rfl⟩)) ((Finset.le_fold_min _).2 ⟨h0, hle⟩)

theorem toInt_ofNat_fin (k : Fin 8192) : (BitVec.ofNat 32 k.val).toInt = k.val := by
  have h := k.isLt
  rw [BitVec.toInt_eq_toNat_of_lt (by rw [BitVec.toNat_ofNat]; omega), BitVec.toNat_ofNat, Nat.mod_eq_of_lt (by omega)]

/-- The least index among those holding the least value, the others at a large word. -/
theorem fold_minsi_select (f : Fin 8192 → EReal) :
    (Finset.univ : Finset (Fin 8192)).fold IntOp.minsi 2147483647#32
      (fun j => if f j = f (firstMin f) then BitVec.ofNat 32 j.val else 1073741824#32) = BitVec.ofNat 32 (firstMin f).val := by
  refine fold_minsi_eq _ _ _ _ ⟨firstMin f, Finset.mem_univ _, by rw [if_pos rfl]⟩ (fun j _ => ?_) ?_
  · rw [toInt_ofNat_fin]
    split_ifs with h
    · rw [toInt_ofNat_fin]
      by_contra hc
      have hlt : j < firstMin f := by
        have : (j.val : ℤ) < (firstMin f).val := not_le.1 hc
        exact Fin.lt_def.2 (by omega)
      exact absurd h ((firstMin_spec f).2 j hlt).ne'
    · have := (firstMin f).isLt
      have e : (1073741824#32 : BitVec 32).toInt = 1073741824 := by decide
      rw [e]; omega
  · have := (firstMin f).isLt
    have e : (2147483647#32 : BitVec 32).toInt = 2147483647 := by decide
    rw [toInt_ofNat_fin, e]; omega

/-! ## The lexicographic reducer -/

/-- A pair is no later than another in the order the reducer picks by. -/
def LexLe (a b : EReal × BitVec 32) : Prop := a.1 < b.1 ∨ (a.1 = b.1 ∧ a.2.toInt ≤ b.2.toInt)

theorem LexLe.refl (a : EReal × BitVec 32) : LexLe a a := .inr ⟨rfl, le_rfl⟩

theorem LexLe.trans {a b c : EReal × BitVec 32} (h₁ : LexLe a b) (h₂ : LexLe b c) : LexLe a c := by
  rcases h₁ with h₁ | ⟨e₁, h₁⟩ <;> rcases h₂ with h₂ | ⟨e₂, h₂⟩
  · exact .inl (h₁.trans h₂)
  · exact .inl (e₂ ▸ h₁)
  · exact .inl (e₁ ▸ h₂)
  · exact .inr ⟨e₁.trans e₂, h₁.trans h₂⟩

/-- The printed reducer keeps its first pair when that one's value is less, or equal with a smaller index, and else the
    second. -/
theorem reducer_eq (a b : EReal × BitVec 32) :
    Cert.ReferenceIdeal.reducer_argmin_f32_i32 (F := Ideal) a b
      = if a.1 < b.1 ∨ (a.1 = b.1 ∧ a.2.toInt < b.2.toInt) then a else b := by
  obtain ⟨x, p⟩ := a
  obtain ⟨y, q⟩ := b
  unfold Cert.ReferenceIdeal.reducer_argmin_f32_i32
  have hs : IntOp.cmpi .slt p q = BitVec.ofBool (decide (p.toInt < q.toInt)) := rfl
  simp only [Ideal.cmpf_def, Ideal.cmp, hs]
  rcases lt_trichotomy x y with h | h | h
  · simp [h, Scalar.select, IntOp.ori, IntOp.andi, h.ne]
  · subst h
    by_cases hp : p.toInt < q.toInt
    · simp [hp, Scalar.select, IntOp.ori, IntOp.andi]
    · simp [hp, Scalar.select, IntOp.ori, IntOp.andi]
  · simp [h.ne', not_lt.2 h.le, Scalar.select, IntOp.ori, IntOp.andi]

theorem reducer_mem (a b : EReal × BitVec 32) :
    Cert.ReferenceIdeal.reducer_argmin_f32_i32 (F := Ideal) a b = a
      ∨ Cert.ReferenceIdeal.reducer_argmin_f32_i32 (F := Ideal) a b = b := by
  rw [reducer_eq]; split_ifs <;> simp

theorem reducer_le (a b : EReal × BitVec 32) :
    LexLe (Cert.ReferenceIdeal.reducer_argmin_f32_i32 (F := Ideal) a b) a
      ∧ LexLe (Cert.ReferenceIdeal.reducer_argmin_f32_i32 (F := Ideal) a b) b := by
  rw [reducer_eq]
  split_ifs with h
  · refine ⟨LexLe.refl a, ?_⟩
    rcases h with h | ⟨e, h⟩
    · exact .inl h
    · exact .inr ⟨e, h.le⟩
  · refine ⟨?_, LexLe.refl b⟩
    rw [not_or, not_and] at h
    rcases lt_or_eq_of_le (not_lt.1 h.1) with h' | h'
    · exact .inl h'
    · exact .inr ⟨h', not_lt.1 (h.2 h'.symm)⟩

/-- The fold of the reducer is one of the pairs it ran over, and no later than any. -/
theorem foldl_reducer (l : List (EReal × BitVec 32)) : ∀ p : EReal × BitVec 32,
    (l.foldl (Cert.ReferenceIdeal.reducer_argmin_f32_i32 (F := Ideal)) p ∈ p :: l)
      ∧ ∀ q ∈ p :: l, LexLe (l.foldl (Cert.ReferenceIdeal.reducer_argmin_f32_i32 (F := Ideal)) p) q := by
  induction l with
  | nil => exact fun p => ⟨List.mem_cons_self, fun q hq => by
      rw [List.mem_singleton] at hq; subst hq; exact LexLe.refl _⟩
  | cons a l ih =>
    intro p
    rw [List.foldl_cons]
    obtain ⟨hm, hl⟩ := ih (Cert.ReferenceIdeal.reducer_argmin_f32_i32 (F := Ideal) p a)
    have hr := hl _ List.mem_cons_self
    refine ⟨?_, fun q hq => ?_⟩
    · rcases List.mem_cons.1 hm with h | h
      · rw [h]
        rcases reducer_mem p a with h | h <;> rw [h] <;> simp
      · exact List.mem_cons_of_mem _ (List.mem_cons_of_mem _ h)
    · rcases List.mem_cons.1 hq with rfl | hq
      · exact hr.trans (reducer_le _ _).1
      · rcases List.mem_cons.1 hq with rfl | hq
        · exact hr.trans (reducer_le _ _).2
        · exact hl _ (List.mem_cons_of_mem _ hq)

/-- The fold over all (value, index) pairs of a row, from `+∞` and index 0, in any order, ends at the first least index. -/
theorem foldl_reducer_row (f : Fin 8192 → EReal) (l : List (EReal × BitVec 32))
    (hl : ∀ q, q ∈ l ↔ ∃ j, q = (f j, BitVec.ofNat 32 j.val)) :
    (l.foldl (Cert.ReferenceIdeal.reducer_argmin_f32_i32 (F := Ideal)) (⊤, 0#32)).2 = BitVec.ofNat 32 (firstMin f).val := by
  obtain ⟨hm, hle⟩ := foldl_reducer l (⊤, 0#32)
  generalize l.foldl (Cert.ReferenceIdeal.reducer_argmin_f32_i32 (F := Ideal)) (⊤, 0#32) = r at hm hle
  have hk := firstMin_spec f
  have h := hle (f (firstMin f), BitVec.ofNat 32 (firstMin f).val) (List.mem_cons_of_mem _ ((hl _).2 ⟨_, rfl⟩))
  rcases List.mem_cons.1 hm with rfl | hm
  · rcases h with h | ⟨e, -⟩
    · exact absurd h not_top_lt
    · have h0 : ¬ (⟨0, by decide⟩ : Fin 8192) < firstMin f := fun hc => by
        have := hk.2 _ hc
        rw [← show (⊤ : EReal) = f (firstMin f) from e] at this
        exact absurd this not_top_lt
      have : (firstMin f).val = 0 := by
        have := mt Fin.lt_def.2 h0
        simpa using this
      rw [this]
  · obtain ⟨j, rfl⟩ := (hl _).1 hm
    have hj := hk.1 j
    rcases h with h | ⟨e, h⟩
    · exact absurd hj (not_le.2 h)
    · have h' : (BitVec.ofNat 32 j.val).toInt ≤ (BitVec.ofNat 32 (firstMin f).val).toInt := h
      rw [toInt_ofNat_fin, toInt_ofNat_fin] at h'
      have : j = firstMin f := by
        by_contra hne
        have hlt : j < firstMin f := lt_of_le_of_ne (Fin.le_def.2 (by omega)) hne
        exact absurd (show f j = f (firstMin f) from e) (hk.2 j hlt).ne'
      rw [this]

end Cert.Proof.VQ
-- ==== Proof.Pay.lean ====
/-
  What the TensorCore kernel's named pure values are at the ideal floats, index by index: the distances of a block, each
  row's least distance, its first least index and the one-hot rows of those.
-/
module

public import proofs.«01_k».proof.Proof.Gen.KernelIdeal.Skeleton
public import proofs.«01_k».proof.Proof.Argmin
public import Idealize.ShloMosaic.Lib.ValueLayout
public import Idealize.ShloMosaic.Lib.ValueLayoutCasts
public import Idealize.ShloMosaic.Lib.ValueIdxCoords
public import Idealize.ShloMosaic.Lib.ValueIdxRank1
public import Idealize.ShloMosaic.Lib.MatmulPlain
public import Idealize.ShloMosaic.Lib.IdealHost
public import Idealize.ShloMosaic.Lib.Pipeline.Value

@[expose] public section

noncomputable section

namespace Cert.Proof.VQ

open Cert.KernelIdeal Cert.KernelIdeal.Gen
open Idealize.ShloMosaic Idealize.ShloMosaic.ValueIdx

theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem shapeCast_self_apply {α : Type} {s : Shape} (x : s.Idx → α) (h : s.ShapeCasts s) (i : s.Idx) :
    shapeCast s x h i = x i := shapeCast_apply x h i i rfl

/-- The sum of a shape cast over all its indices is the sum of the operand over all its. -/
theorem sum_shapeCast {s t : Shape} (x : s.Idx → EReal) (h : s.ShapeCasts t) :
    ∑ i : t.Idx, shapeCast t x h i = ∑ i : s.Idx, x i := by
  unfold shapeCast
  exact Equiv.sum_comp _ x

variable (x0 : Vec Ideal S1x32x16x32 .f32) (x1 : Vec Ideal S8192x32 .f32) (x2 : Vec Ideal S512x1 .f32) (x3 : Vec Ideal S1x8192 .f32)

/-- The distance of a block's row to a codebook row, from its four inputs. -/
def bdist (i : Fin 512) (j : Fin 8192) : EReal :=
  (x2 (ix2 i (0 : Fin 1)) + x3 (ix2 (0 : Fin 1) j))
    - Ideal.ofBits .f32 0x40000000#32
      * ∑ c : Fin 32, x0 (ix4 (0 : Fin 1) c (⟨i.val / 32, by omega⟩ : Fin 16) (⟨i.val % 32, by omega⟩ : Fin 32)) * x1 (ix2 j c)

theorem pay6_apply (i : Fin 512) (j : Fin 8192) : k0_pay6 (F := Ideal) x0 x1 x2 x3 (ix2 i j) = bdist x0 x1 x2 x3 i j := by
  unfold k0_pay6 bdist
  rw [subf_apply, addf_apply, mulf_apply, broadcast_apply]
  refine congrArg₂ (· - ·) (congrArg₂ (· + ·) ?_ ?_) (congrArg₂ (· * ·) rfl ?_)
  · exact (broadcastTo_col_apply _ _ i j).trans (shapeCast_self_apply _ _ _)
  · exact (broadcastTo_1b_ab_apply _ _ i j).trans (shapeCast_self_apply _ _ _)
  · have hm := Ideal.matmul_transposedRhs_apply (M := 512) (K := 32) (N := 8192) (φ₁ := .f32) (φ₂ := .f32) none
        (transpose S512x32 [1, 0] (shapeCast S32x512 x0 shapeCasts_S1x32x16x32_S32x512) transposes_S32x512_p1_0_S512x32) x1
        (constant S512x8192 .f32 0x00000000#32) i j
    refine Eq.trans hm ?_
    rw [constant_apply, Ideal.ofBits_zero_f32, zero_add]
    refine Finset.sum_congr rfl fun c _ => congrArg (· * x1 (ix2 j c)) ?_
    refine (transpose_ix2_apply _ _ i c).trans ?_
    refine shapeCast_apply x0 _ _ _ ?_
    rw [Shape.rowMajor_val_four, Shape.rowMajor_val_two]
    show ((0 * 32 + c.val) * 16 + i.val / 32) * 32 + i.val % 32 = c.val * 512 + i.val
    omega

/-- A reduced row index with its column put back is that place. -/
theorem lift_row {a b : ℕ} (h : (⟨2, ![a, b]⟩ : Shape).Reduces [1] ⟨1, ![a]⟩) (i : Fin a) (k : Fin b) :
    h.lift (ix1 i) k = ix2 i k := by
  funext c; apply Fin.ext
  match c with
  | ⟨0, _⟩ => rfl
  | ⟨1, _⟩ => rfl

theorem lift_col {a b : ℕ} (h : (⟨2, ![a, b]⟩ : Shape).Reduces [0] ⟨1, ![b]⟩) (i : Fin b) (k : Fin a) :
    h.lift (ix1 i) k = ix2 k i := by
  funext c; apply Fin.ext
  match c with
  | ⟨0, _⟩ => rfl
  | ⟨1, _⟩ => rfl

theorem ofBits_inf_f32 : Ideal.ofBits .f32 0x7F800000#32 = (⊤ : EReal) := by simp [Ideal.ofBits, Ideal.ieee]

theorem pay7_apply (i : Fin 512) :
    k0_pay7 (F := Ideal) x0 x1 x2 x3 (ix2 i (0 : Fin 1)) = bdist x0 x1 x2 x3 i (firstMin (bdist x0 x1 x2 x3 i)) := by
  unfold k0_pay7
  refine (shapeCast_a_a1_apply _ _ i 0).trans ?_
  refine (multiReduction_minimumf_eq_fold (F := Ideal) (k0_pay6 x0 x1 x2 x3) _ reduces_S512x8192_S512 (.inl rfl) rfl (ix1 i)).trans ?_
  refine (Shape.Reduces.fold_filter_drop_single reduces_S512x8192_S512 _ _ _ _).trans ?_
  refine Eq.trans ?_ (fold_min_eq (bdist x0 x1 x2 x3 i))
  have e : (k0_pay6 (F := Ideal) x0 x1 x2 x3) ∘ reduces_S512x8192_S512.lift (ix1 i) = bdist x0 x1 x2 x3 i :=
    funext fun k => (congrArg _ (lift_row _ i k)).trans (pay6_apply x0 x1 x2 x3 i k)
  rw [e]
  show Finset.univ.fold min (Ideal.ofBits .f32 0x7F800000#32) (bdist x0 x1 x2 x3 i) = _
  rw [ofBits_inf_f32]

theorem pay8_apply (i : Fin 512) :
    k0_pay8 (F := Ideal) x0 x1 x2 x3 (ix1 i) = BitVec.ofNat 32 (firstMin (bdist x0 x1 x2 x3 i)).val := by
  unfold k0_pay8
  refine (multiReductionI_eq_fold .minsi _ _ reduces_S512x8192_S512 rfl (ix1 i)).trans ?_
  refine (Shape.Reduces.fold_filter_drop_single reduces_S512x8192_S512 _ _ _ _).trans ?_
  rw [← fold_minsi_select]
  show Finset.univ.fold IntOp.minsi 2147483647#32 _ = _
  refine congrArg (fun g => Finset.univ.fold IntOp.minsi 2147483647#32 g) (funext fun (k : Fin 8192) => ?_)
  show select _ _ _ (reduces_S512x8192_S512.lift (ix1 i) k) = _
  rw [show reduces_S512x8192_S512.lift (ix1 i) k = ix2 i k from lift_row _ i k, select_apply, cmpf_apply, pay6_apply, iota_single_apply, broadcast_apply]
  rw [show broadcastTo S512x8192 (k0_pay7 (F := Ideal) x0 x1 x2 x3) broadcasts_S512x1_S512x8192 (ix2 i k) = _ from
    (broadcastTo_col_apply _ _ i k).trans (pay7_apply x0 x1 x2 x3 i)]
  rw [Ideal.cmpf_def]
  unfold Ideal.cmp
  by_cases h : bdist x0 x1 x2 x3 i k = bdist x0 x1 x2 x3 i (firstMin (bdist x0 x1 x2 x3 i))
  · rw [if_pos h]; simp [h, Scalar.select]
  · rw [if_neg h]; simp [h, Scalar.select]

theorem pay9_apply (i : Fin 512) :
    k0_pay9 (F := Ideal) x0 x1 x2 x3 (ix3 (0 : Fin 1) (0 : Fin 1) i) = BitVec.ofNat 32 (firstMin (bdist x0 x1 x2 x3 i)).val := by
  unfold k0_pay9
  rw [← pay8_apply]
  refine shapeCast_apply _ _ _ _ ?_
  rw [Shape.rowMajor_val_one, Shape.rowMajor_val_three]
  show i.val = (0 * 1 + 0) * 512 + i.val
  omega

theorem ofNat_fin_inj {j k : Fin 8192} : BitVec.ofNat 32 j.val = BitVec.ofNat 32 k.val ↔ j = k := by
  refine ⟨fun h => ?_, fun h => by rw [h]⟩
  have h' := congrArg BitVec.toInt h
  rw [toInt_ofNat_fin, toInt_ofNat_fin] at h'
  exact Fin.ext (by omega)

theorem pay10_apply (i : Fin 512) (j : Fin 8192) :
    k0_pay10 (F := Ideal) x0 x1 x2 x3 (ix2 i j) = if j = firstMin (bdist x0 x1 x2 x3 i) then 1 else 0 := by
  unfold k0_pay10
  rw [sitofp_apply, extui_apply]
  rw [show (cmpi .eq (iota .tc S512x8192 32 [1] iota_S512x8192_d1_w32)
      (broadcastTo S512x8192 (shapeCast S512x1 (k0_pay8 (F := Ideal) x0 x1 x2 x3) shapeCasts_S512_S512x1) broadcasts_S512x1_S512x8192))
        (ix2 i j) = IntOp.cmpi .eq (BitVec.ofNat 32 j.val) (BitVec.ofNat 32 (firstMin (bdist x0 x1 x2 x3 i)).val) from
    congrArg₂ (IntOp.cmpi .eq) (iota_single_apply _ _ _ _ _ _)
      ((broadcastTo_col_apply _ _ i j).trans ((shapeCast_a_a1_apply _ _ i 0).trans (pay8_apply x0 x1 x2 x3 i)))]
  rw [show IntOp.cmpi .eq (BitVec.ofNat 32 j.val) (BitVec.ofNat 32 (firstMin (bdist x0 x1 x2 x3 i)).val)
    = BitVec.ofBool (decide (j = firstMin (bdist x0 x1 x2 x3 i))) from by
      simp only [IntOp.cmpi, beq_eq_decide, ofNat_fin_inj]]
  by_cases h : j = firstMin (bdist x0 x1 x2 x3 i)
  · rw [if_pos h, decide_eq_true h]
    show ((((BitVec.ofBool true).setWidth 32).toInt : ℝ) : EReal) = 1
    rw [show ((BitVec.ofBool true).setWidth 32).toInt = 1 from by decide]; norm_num
  · rw [if_neg h, decide_eq_false h]
    show ((((BitVec.ofBool false).setWidth 32).toInt : ℝ) : EReal) = 0
    rw [show ((BitVec.ofBool false).setWidth 32).toInt = 0 from by decide]; norm_num

/-- The column sums added to what was counted. -/
theorem pay2_apply (v31 : FVec Ideal S512x8192 .f32) (v35 : Vec Ideal S1x8192 .f32) (j : Fin 8192) :
    k0_pay2 (F := Ideal) v31 v35 (ix2 (0 : Fin 1) j) = v35 (ix2 (0 : Fin 1) j) + ∑ i : Fin 512, v31 (ix2 i j) := by
  unfold k0_pay2
  refine (shapeCast_self_apply _ _ _).trans ?_
  rw [addf_apply]
  refine congrArg (v35 (ix2 (0 : Fin 1) j) + ·) ?_
  refine (shapeCast_a_1a_apply _ _ 0 j).trans ?_
  refine (Ideal.multiReduction_add_single v31 _ reduces_S512x8192_S8192 (.inl rfl) rfl (ix1 j)).trans ?_
  exact Finset.sum_congr rfl fun k _ => congrArg v31 (lift_col _ j k)

/-- A total sum taken through one element of a `1 × 1 × 1` array. -/
theorem extract_total {n0 n1 n2 : ℕ} (v : FVec Ideal ⟨3, ![n0, n1, n2]⟩ .f32) (h : (⟨3, ![n0, n1, n2]⟩ : Shape).Reduces [1, 2] S1) :
    extractAt ![0, 0, 0] (shapeCast S1x1x1 (multiReduction .add [1, 2] S1 v 0x00000000#32 h (.inl rfl) rfl) shapeCasts_S1_S1x1x1)
      inpos_S1x1x1_p0_0_0 = ∑ i, v i := by
  unfold extractAt
  refine (shapeCast_apply _ _ _ (ix1 (0 : Fin 1)) (by rw [Shape.rowMajor_val_one, Shape.rowMajor_val_three]; rfl)).trans ?_
  exact Ideal.multiReduction_add_total v _ h (by decide) (.inl rfl) rfl _

/-- The sum of a column added to a running sum. -/
theorem pay3_apply (v17 : FVec Ideal S512x1 .f32) (s : Elt Ideal .f32) :
    k0_pay3 (F := Ideal) v17 s = s + ∑ i : Fin 512, v17 (ix2 i (0 : Fin 1)) := by
  unfold k0_pay3
  show s + _ = _
  refine congrArg (s + ·) ?_
  refine (extract_total _ _).trans ?_
  rw [sum_shapeCast, sum_idx2]
  exact Finset.sum_congr rfl fun i _ => Fin.sum_univ_one _

/-- The exponential of the negated sum of `p · log (p + ε)` over the counts' shares `p`. -/
def perpOf (f : Fin 8192 → EReal) : EReal :=
  Ideal.exp (0 - ∑ j : Fin 8192, Ideal.div (f j) (Ideal.ofBits .f32 0x46000000#32)
    * Ideal.log (Ideal.div (f j) (Ideal.ofBits .f32 0x46000000#32) + Ideal.ofBits .f32 0x2EDBE6FF#32))

theorem pay5_apply (v : Vec Ideal S1x8192 .f32) (i : S1x1.Idx) :
    k0_pay5 (F := Ideal) v i = perpOf fun j => v (ix2 (0 : Fin 1) j) := by
  unfold k0_pay5 perpOf
  rw [broadcast_apply]
  rw [show ∀ x : EReal, Scalar.exp (F := Ideal) (φ := .f32) x = Ideal.exp x from fun _ => rfl, Ideal.scalar_subf_def,
    show (Scalar.ofBits .f32 0x00000000#32 : Ideal .f32) = 0 from Ideal.ofBits_zero_f32]
  refine congrArg (fun y => Ideal.exp (0 - y)) ?_
  refine (extract_total (n0 := 1) (n1 := 1) (n2 := 8192) _ reduces_S1x1x8192_S1).trans ?_
  rw [sum_shapeCast, sum_idx2, Fin.sum_univ_one]
  exact Finset.sum_congr rfl fun j _ => rfl

theorem pay4_apply (s : Elt Ideal .f32) (i : S1x1.Idx) :
    k0_pay4 (F := Ideal) s i = Ideal.div (Ideal.ofBits .f32 0x3FA00000#32 * s) (Ideal.ofBits .f32 0x48800000#32) := rfl

end Cert.Proof.VQ
-- ==== Proof.Values.lean ====
/-
  What the TensorCore call leaves in its four outputs, at the ideal floats, from the arrays it is entered with: the
  distances, each row's first nearest codebook row, the scaled sum of the least distances and the perplexity.
-/
module

public import proofs.«01_k».proof.Proof.Region
public import proofs.«01_k».proof.Proof.Pay
public import Idealize.ShloMosaic.Lib.Pipeline.ValueKit

@[expose] public section

noncomputable section

namespace Cert.Proof.VQ

open Cert.KernelIdeal Cert.KernelIdeal.Gen
open Idealize.ShloMosaic hiding ix1 ix2 ix3 ix4 eq_ix2 eq_ix3
open Idealize.ShloMosaic.ValueIdx Idealize.ShloMosaic.TcCoe

variable (W : Dev nD → Valuation τ sig (Elt Ideal)) (d : Dev nD)

theorem index0 : ∀ t : Fin cfg0.N, (cfg0.win 0).index t = ![t.val / 2, 0, t.val % 2, 0] := by decide +kernel
theorem index1 : ∀ t : Fin cfg0.N, (cfg0.win 1).index t = ![0, 0] := by decide +kernel
theorem index2 : ∀ t : Fin cfg0.N, (cfg0.win 2).index t = ![t.val, 0] := by decide +kernel
theorem index3 : ∀ t : Fin cfg0.N, (cfg0.win 3).index t = ![0, 0] := by decide +kernel
theorem index4 : ∀ t : Fin cfg0.N, (cfg0.win 4).index t = ![t.val, 0] := by decide +kernel
theorem index5 : ∀ t : Fin cfg0.N, (cfg0.win 5).index t = ![t.val, 0, 0] := by decide +kernel

/-- Row `i` of block `t` among the 8192 rows. -/
def row (t : Fin cfg0.N) (i : Fin 512) : Fin 8192 := ⟨512 * t.val + i.val, by have : cfg0.N = 16 := N_0; have := t.isLt; omega⟩

/-- The places of row `n` in the image: its batch, its line and its column. -/
def rb (n : Fin 8192) : Fin 8 := ⟨n.val / 1024, by omega⟩
def rh (n : Fin 8192) : Fin 32 := ⟨n.val % 1024 / 32, by omega⟩
def rw' (n : Fin 8192) : Fin 32 := ⟨n.val % 32, by omega⟩

/-- The distance of row `n` to codebook row `j`, from the arrays the call is entered with. -/
def wdist (Z : S8x32x32x32.Idx → EReal) (B : S8192x32.Idx → EReal) (z2 : S8192x1.Idx → EReal) (w2 : S1x8192.Idx → EReal)
    (n j : Fin 8192) : EReal :=
  (z2 (ix2 n (0 : Fin 1)) + w2 (ix2 (0 : Fin 1) j))
    - Ideal.ofBits .f32 0x40000000#32 * ∑ c : Fin 32, Z (ix4 (rb n) c (rh n) (rw' n)) * B (ix2 j c)

theorem blk0_apply (t : Fin cfg0.N) (i : Fin 512) (c : Fin 32) :
    blkIn W d 0 t (ix4 (0 : Fin 1) c (⟨i.val / 32, by omega⟩ : Fin 16) (⟨i.val % 32, by omega⟩ : Fin 32))
      = (W d main_arg0 : S8x32x32x32.Idx → EReal) (ix4 (rb (row t i)) c (rh (row t i)) (rw' (row t i))) := by
  have hN : cfg0.N = 16 := N_0
  have ht := t.isLt
  have e := index0 t
  refine congrArg (W d main_arg0) (funext fun a => Fin.ext ?_)
  refine (Pipeline.Window.rect_emb_val (cfg0.win 0) t _ a).trans ?_
  rw [e]
  match a with
  | ⟨0, _⟩ => show t.val / 2 * 1 + 0 = (512 * t.val + i.val) / 1024; omega
  | ⟨1, _⟩ => show 0 * 32 + c.val = c.val; omega
  | ⟨2, _⟩ => show t.val % 2 * 16 + i.val / 32 = (512 * t.val + i.val) % 1024 / 32; omega
  | ⟨3, _⟩ => show 0 * 32 + i.val % 32 = (512 * t.val + i.val) % 32; omega

theorem blk1_apply (t : Fin cfg0.N) (j : Fin 8192) (c : Fin 32) :
    blkIn W d 1 t (ix2 j c) = (W d main_arg1 : S8192x32.Idx → EReal) (ix2 j c) := by
  have e := index1 t
  refine congrArg (W d main_arg1) (funext fun a => Fin.ext ?_)
  refine (Pipeline.Window.rect_emb_val (cfg0.win 1) t _ a).trans ?_
  rw [e]
  match a with
  | ⟨0, _⟩ => show 0 * 8192 + j.val = j.val; omega
  | ⟨1, _⟩ => show 0 * 32 + c.val = c.val; omega

theorem blk2_apply (t : Fin cfg0.N) (i : Fin 512) :
    blkIn W d 2 t (ix2 i (0 : Fin 1)) = (W d main_v2 : S8192x1.Idx → EReal) (ix2 (row t i) (0 : Fin 1)) := by
  have e := index2 t
  refine congrArg (W d main_v2) (funext fun a => Fin.ext ?_)
  refine (Pipeline.Window.rect_emb_val (cfg0.win 2) t _ a).trans ?_
  rw [e]
  match a with
  | ⟨0, _⟩ => show t.val * 512 + i.val = 512 * t.val + i.val; omega
  | ⟨1, _⟩ => rfl

theorem blk3_apply (t : Fin cfg0.N) (j : Fin 8192) :
    blkIn W d 3 t (ix2 (0 : Fin 1) j) = (W d main_v5 : S1x8192.Idx → EReal) (ix2 (0 : Fin 1) j) := by
  have e := index3 t
  refine congrArg (W d main_v5) (funext fun a => Fin.ext ?_)
  refine (Pipeline.Window.rect_emb_val (cfg0.win 3) t _ a).trans ?_
  rw [e]
  match a with
  | ⟨0, _⟩ => rfl
  | ⟨1, _⟩ => show 0 * 8192 + j.val = j.val; omega

/-- The distances from the arrays at `W`. -/
abbrev dst : Fin 8192 → Fin 8192 → EReal := wdist (W d main_arg0) (W d main_arg1) (W d main_v2) (W d main_v5)

theorem bdist_eq (t : Fin cfg0.N) (i : Fin 512) :
    bdist (blkIn W d 0 t) (blkIn W d 1 t) (blkIn W d 2 t) (blkIn W d 3 t) i = dst W d (row t i) := by
  funext j
  unfold bdist dst wdist
  refine congrArg₂ (· - ·) (congrArg₂ (· + ·) (blk2_apply W d t i) (blk3_apply W d t j)) (congrArg₂ (· * ·) rfl ?_)
  exact Finset.sum_congr rfl fun c _ => congrArg₂ (· * ·) (blk0_apply W d t i c) (blk1_apply W d t j c)

/-! ## The two tiled outputs -/

theorem arr_dist : (dat W d).arrAt 4 cfg0.N = (fun i => dst W d (i 0) (i 1) : S8192x8192.Idx → EReal) := by
  refine (dat W d).arrAt_eq_of_covers 4 _ (by decide +kernel) fun t hf y => ?_
  rw [after4]
  show k0_pay6 (F := Ideal) _ _ _ _ (y : S512x8192.Idx) = _
  have e := index4 t
  have hN : cfg0.N = 16 := N_0
  have ht := t.isLt
  obtain ⟨i, j, rfl⟩ : ∃ (i : Fin 512) (j : Fin 8192), (y : S512x8192.Idx) = ix2 i j := ⟨y 0, y 1, eq_ix2 y⟩
  rw [pay6_apply, bdist_eq]
  have h0 : (((cfg0.win 4).blk t).view.emb (ix2 i j : S512x8192.Idx) : S8192x8192.Idx) 0 = row t i := Fin.ext (by
    refine (Pipeline.Window.rect_emb_val (cfg0.win 4) t _ 0).trans ?_
    rw [e]
    show t.val * 512 + i.val = 512 * t.val + i.val; omega)
  have h1 : (((cfg0.win 4).blk t).view.emb (ix2 i j : S512x8192.Idx) : S8192x8192.Idx) 1 = j := Fin.ext (by
    refine (Pipeline.Window.rect_emb_val (cfg0.win 4) t _ 1).trans ?_
    rw [e]
    show 0 * 8192 + j.val = j.val; omega)
  show dst W d (row t i) j = dst W d _ _
  rw [h0, h1]

/-- The row at place `i` of the blocks of indices. -/
def rowOf (i : S16x1x512.Idx) : Fin 8192 := ⟨(i 0).val * 512 + (i 2).val, by
  have h0 : (i 0).val < 16 := (i 0).isLt
  have h2 : (i 2).val < 512 := (i 2).isLt
  omega⟩

/-- Each row's first nearest codebook row, in the blocks of indices. -/
def idxArr (i : S16x1x512.Idx) : BitVec 32 := BitVec.ofNat 32 (firstMin (dst W d (rowOf i))).val

theorem arr_idx : (dat W d).arrAt 5 cfg0.N = idxArr W d := by
  refine (dat W d).arrAt_eq_of_covers 5 _ (by decide +kernel) fun t hf y => ?_
  rw [after5]
  refine (eq_of_heq (cast_heq _ _)).trans ?_
  have e := index5 t
  have hN : cfg0.N = 16 := N_0
  have ht := t.isLt
  obtain ⟨u, v, i, rfl⟩ : ∃ (u v : Fin 1) (i : Fin 512), (y : S1x1x512.Idx) = ix3 u v i := ⟨y 0, y 1, y 2, eq_ix3 y⟩
  obtain rfl := Subsingleton.elim u 0
  obtain rfl := Subsingleton.elim v 0
  have hx : ((cfg0.win 5).xinj (cfg0.grid.coords t) (ix3 (0 : Fin 1) (0 : Fin 1) i : S1x1x512.Idx) : S1x1x512.Idx)
      = ix3 (0 : Fin 1) (0 : Fin 1) i := rfl
  refine ((congrArg _ hx).trans (pay9_apply _ _ _ _ i)).trans ?_
  rw [bdist_eq]
  have h0 : ((((cfg0.win 5).blk t).view.emb (ix3 (0 : Fin 1) (0 : Fin 1) i : S1x1x512.Idx) : S16x1x512.Idx) 0).val = t.val := by
    refine (Pipeline.Window.rect_emb_val (cfg0.win 5) t _ 0).trans ?_
    rw [e]
    show t.val * 1 + 0 = t.val; omega
  have h2 : ((((cfg0.win 5).blk t).view.emb (ix3 (0 : Fin 1) (0 : Fin 1) i : S1x1x512.Idx) : S16x1x512.Idx) 2).val = i.val := by
    refine (Pipeline.Window.rect_emb_val (cfg0.win 5) t _ 2).trans ?_
    rw [e]
    show 0 * 512 + i.val = i.val; omega
  show _ = BitVec.ofNat 32 (firstMin (dst W d (rowOf _))).val
  refine congrArg (fun n => BitVec.ofNat 32 (firstMin (dst W d n)).val) (Fin.ext ?_)
  show 512 * t.val + i.val = _ * 512 + _
  rw [h0, h2]; omega

/-! ## The two accumulated outputs -/

/-- How often codebook row `j` is the first nearest, over the rows below `512 · n`. -/
theorem cnt_apply (n : ℕ) (h : n ≤ cfg0.N) (j : Fin 8192) :
    cnt W d n h (ix2 (0 : Fin 1) j)
      = ∑ t : Fin n, ∑ i : Fin 512, if j = firstMin (dst W d (row ⟨t.val, lt_of_lt_of_le t.isLt h⟩ i)) then 1 else 0 := by
  induction n with
  | zero =>
    rw [Finset.univ_eq_empty, Finset.sum_empty]
    show k0_pay1 (F := Ideal) _ = _
    unfold k0_pay1
    refine (shapeCast_self_apply _ _ _).trans ?_
    rw [broadcast_apply]
    exact Ideal.ofBits_zero_f32
  | succ n ih =>
    rw [Fin.sum_univ_castSucc]
    show k0_pay2 (F := Ideal) (k0_pay10 (F := Ideal) (blkIn W d 0 ⟨n, h⟩) (blkIn W d 1 ⟨n, h⟩) (blkIn W d 2 ⟨n, h⟩) (blkIn W d 3 ⟨n, h⟩))
      (cnt W d n (Nat.le_of_lt h)) (ix2 (0 : Fin 1) j) = _
    rw [pay2_apply, ih (Nat.le_of_lt h)]
    refine congrArg₂ (· + ·) rfl (Finset.sum_congr rfl fun i _ => ?_)
    rw [pay10_apply, bdist_eq]
    rfl

/-- The sum of the rows' least distances, over the rows below `512 · n`. -/
theorem lsum_apply (n : ℕ) (h : n ≤ cfg0.N) :
    (lsum W d n h : EReal)
      = ∑ t : Fin n, ∑ i : Fin 512, dst W d (row ⟨t.val, lt_of_lt_of_le t.isLt h⟩ i)
          (firstMin (dst W d (row ⟨t.val, lt_of_lt_of_le t.isLt h⟩ i))) := by
  induction n with
  | zero =>
    rw [Finset.univ_eq_empty, Finset.sum_empty]
    exact Ideal.ofBits_zero_f32
  | succ n ih =>
    rw [Fin.sum_univ_castSucc]
    show k0_pay3 (F := Ideal) (k0_pay7 (F := Ideal) (blkIn W d 0 ⟨n, h⟩) (blkIn W d 1 ⟨n, h⟩) (blkIn W d 2 ⟨n, h⟩) (blkIn W d 3 ⟨n, h⟩))
      (lsum W d n (Nat.le_of_lt h)) = _
    rw [pay3_apply, ih (Nat.le_of_lt h)]
    refine congrArg₂ (· + ·) rfl (Finset.sum_congr rfl fun i _ => ?_)
    rw [pay7_apply, bdist_eq]
    rfl

/-- The 16 blocks of 512 rows are the 8192 rows. -/
theorem sum_rows (f : Fin 8192 → EReal) (hN : 16 = cfg0.N) :
    ∑ t : Fin 16, ∑ i : Fin 512, f (row ⟨t.val, lt_of_lt_of_eq t.isLt hN⟩ i) = ∑ n : Fin 8192, f n := by
  refine Eq.trans ?_ (Fin.sum_mul_add_fin (M := EReal) 16 512 f rfl)
  refine Finset.sum_congr rfl fun t _ => Finset.sum_congr rfl fun i _ => congrArg f (Fin.ext ?_)
  show 512 * t.val + i.val = t.val * 512 + i.val
  omega

/-- The sum of the rows' least distances. -/
def least : EReal := ∑ n : Fin 8192, dst W d n (firstMin (dst W d n))

/-- How often codebook row `j` is the first nearest. -/
def often (j : Fin 8192) : EReal := ∑ n : Fin 8192, if j = firstMin (dst W d n) then 1 else 0

theorem lsum_last (h : 16 ≤ cfg0.N) : (lsum W d 16 h : EReal) = least W d :=
  (lsum_apply W d 16 h).trans (sum_rows (fun n => dst W d n (firstMin (dst W d n))) N_0.symm)

theorem cnt_last (h : 16 ≤ cfg0.N) (j : Fin 8192) : cnt W d 16 h (ix2 (0 : Fin 1) j) = often W d j :=
  (cnt_apply W d 16 h j).trans (sum_rows (fun n => if j = firstMin (dst W d n) then 1 else 0) N_0.symm)

theorem arr_loss : (dat W d).arrAt 6 cfg0.N
    = (fun _ => Ideal.div (Ideal.ofBits .f32 0x3FA00000#32 * least W d) (Ideal.ofBits .f32 0x48800000#32) : S1x1.Idx → EReal) := by
  refine (dat W d).arrAt_eq_of_after_last 6 t0_15 (by decide +kernel) _ fun j => ?_
  rw [after6]
  refine (eq_of_heq (cast_heq _ _)).trans ?_
  refine (pay4_apply _ _).trans ?_
  exact congrArg (fun s : EReal => Ideal.div (Ideal.ofBits .f32 0x3FA00000#32 * s) (Ideal.ofBits .f32 0x48800000#32)) (lsum_last W d _)

theorem arr_perp : (dat W d).arrAt 7 cfg0.N = (fun _ => perpOf (often W d) : S1x1.Idx → EReal) := by
  refine (dat W d).arrAt_eq_of_after_last 7 t0_15 (by decide +kernel) _ fun j => ?_
  rw [after7]
  refine (eq_of_heq (cast_heq _ _)).trans ?_
  refine (pay5_apply _ _).trans ?_
  exact congrArg perpOf (funext fun j => cnt_last W d _ j)

end Cert.Proof.VQ
-- ==== Proof.KerVal.lean ====
/-
  The kernel's results at the ideal floats, from its two arguments: the host operations around the two calls read off, the
  indices the SparseCore call gathers by in the table's rows.
-/
module

public import proofs.«01_k».proof.Proof.Main
public import proofs.«01_k».proof.Proof.Values
public import Idealize.ShloMosaic.Lib.KernelVsHost

@[expose] public section

noncomputable section

namespace Cert.Proof.VQ

open Cert.KernelIdeal Cert.KernelIdeal.Gen
open Idealize.ShloMosaic hiding ix1 ix2 ix3 ix4 eq_ix1 eq_ix2 eq_ix3 eq_ix4
open Idealize.ShloMosaic.ValueIdx Idealize.ShloMosaic.TcCoe

variable (m : (ℓ : Loc nD τ sig) → Buf (Elt Ideal) ℓ) (d : Dev nD)

/-- The images and the codebook. -/
abbrev argZ : S8x32x32x32.Idx → EReal := m (d, (main_arg0 : DevRef τ sig))
abbrev argB : S8192x32.Idx → EReal := m (d, (main_arg1 : DevRef τ sig))

/-- Channel `c` of row `n` of the images. -/
def zrow (Z : S8x32x32x32.Idx → EReal) (n : Fin 8192) (c : Fin 32) : EReal := Z (ix4 (rb n) c (rh n) (rw' n))

/-- The distance of image row `n` to codebook row `j`. -/
def dist (Z : S8x32x32x32.Idx → EReal) (B : S8192x32.Idx → EReal) (n j : Fin 8192) : EReal :=
  ((Ideal.ofBits .f32 0x00000000#32 + ∑ c : Fin 32, zrow Z n c * zrow Z n c)
      + (Ideal.ofBits .f32 0x00000000#32 + ∑ c : Fin 32, B (ix2 j c) * B (ix2 j c)))
    - Ideal.ofBits .f32 0x40000000#32 * ∑ c : Fin 32, zrow Z n c * B (ix2 j c)

theorem redZ : S8x32x32x32.Reduces [1] S8x32x32 := by decide
theorem redB : S8192x32.Reduces [1] S8192 := by decide

/-- A reduced index of the images with its channel put back is that place. -/
theorem lift_mid {n0 n1 n2 n3 : ℕ} (h : (⟨4, ![n0, n1, n2, n3]⟩ : Shape).Reduces [1] ⟨3, ![n0, n2, n3]⟩) (a : Fin n0) (b : Fin n2) (c : Fin n3)
    (k : Fin n1) : h.lift (ix3 a b c) k = ix4 a k b c := by
  funext x; apply Fin.ext
  match x with
  | ⟨0, _⟩ => rfl
  | ⟨1, _⟩ => rfl
  | ⟨2, _⟩ => rfl
  | ⟨3, _⟩ => rfl

/-! ## Before the TensorCore call -/

theorem V1_arg0 : V1 m d (main_arg0 : DevRef τ sig) = argZ m d := by
  unfold V1 opsA; after_results_simp
theorem V1_arg1 : V1 m d (main_arg1 : DevRef τ sig) = argB m d := by
  unfold V1 opsA; after_results_simp

theorem V1_v2 (n : Fin 8192) : (V1 m d (main_v2 : DevRef τ sig) : S8192x1.Idx → EReal) (ix2 n (0 : Fin 1))
    = Ideal.ofBits .f32 0x00000000#32 + ∑ c : Fin 32, zrow (argZ m d) n c * zrow (argZ m d) n c := by
  have h : (V1 m d (main_v2 : DevRef τ sig) : S8192x1.Idx → EReal)
      = shapeCast S8192x1 (Host.reduceAdd (F := Ideal) (φ := .f32) (mulf (F := Ideal) (φ := .f32) (argZ m d) (argZ m d)) (constant (F := Ideal) S_ .f32 0x00000000#32)
          reducesTo_S8x32x32x32_S8x32x32_d1 h_S_) shapeCasts_S8x32x32_S8192x1 := by
    unfold V1 opsA; after_results_simp; rfl
  rw [h]
  refine (shapeCast_apply _ _ _ (ix3 (rb n) (rh n) (rw' n)) ?_).trans ?_
  · rw [Shape.rowMajor_val_three, Shape.rowMajor_val_two]
    show (n.val / 1024 * 32 + n.val % 1024 / 32) * 32 + n.val % 32 = n.val * 1 + 0
    omega
  · rw [hostReduceAdd_apply, Ideal.hostReduceAdd_single _ redZ]
    refine congrArg₂ (· + ·) rfl (Finset.sum_congr rfl fun (c : Fin 32) _ => ?_)
    rw [show redZ.lift (ix3 (rb n) (rh n) (rw' n)) c = ix4 (rb n) c (rh n) (rw' n) from lift_mid _ _ _ _ _, mulf_apply]
    rfl

theorem V1_v5 (j : Fin 8192) : (V1 m d (main_v5 : DevRef τ sig) : S1x8192.Idx → EReal) (ix2 (0 : Fin 1) j)
    = Ideal.ofBits .f32 0x00000000#32 + ∑ c : Fin 32, argB m d (ix2 j c) * argB m d (ix2 j c) := by
  have h : (V1 m d (main_v5 : DevRef τ sig) : S1x8192.Idx → EReal)
      = shapeCast S1x8192 (Host.reduceAdd (F := Ideal) (φ := .f32) (mulf (F := Ideal) (φ := .f32) (argB m d) (argB m d)) (constant (F := Ideal) S_ .f32 0x00000000#32)
          reducesTo_S8192x32_S8192_d1 h_S_) shapeCasts_S8192_S1x8192 := by
    unfold V1 opsA; after_results_simp; rfl
  rw [h]
  refine (shapeCast_apply _ _ _ (ix1 j) ?_).trans ?_
  · rw [Shape.rowMajor_val_one, Shape.rowMajor_val_two]
    show j.val = 0 * 8192 + j.val
    omega
  · rw [hostReduceAdd_apply, Ideal.hostReduceAdd_single _ redB]
    refine congrArg₂ (· + ·) rfl (Finset.sum_congr rfl fun (c : Fin 32) _ => ?_)
    rw [show redB.lift (ix1 j) c = ix2 j c from lift_row _ _ _, mulf_apply]

/-- The distances of the call are those of the arguments. -/
theorem dst_V1 : dst (V1 m) d = dist (argZ m d) (argB m d) := by
  funext n j
  show wdist _ _ _ _ n j = _
  unfold wdist dist
  rw [V1_v2, V1_v5, V1_arg0, V1_arg1]
  rfl

/-! ## The SparseCore call's operands -/

theorem V2_arg1 : V2 m d (main_arg1 : DevRef τ sig) = argB m d :=
  (afterTc_of_ne (V1 m) d _ (by decide) (by decide) (by decide) (by decide)).trans (V1_arg1 m d)

theorem scI_apply (n : Fin 8192) : scI m d (ix1 n) = BitVec.ofNat 32 (firstMin (dist (argZ m d) (argB m d) n)).val := by
  have h : scI m d = shapeCast S8192 (V2 m d (main_v6_1 : DevRef τ sig) : S16x1x512.Idx → BitVec 32) shapeCasts_S16x1x512_S8192 := by
    unfold scI V3 opsB; after_results_simp; rfl
  rw [h, show V2 m d (main_v6_1 : DevRef τ sig) = idxArr (V1 m) d from (afterTc_idx (V1 m) d).trans (arr_idx (V1 m) d)]
  refine (shapeCast_apply _ _ _ (ix3 (⟨n.val / 512, by omega⟩ : Fin 16) (0 : Fin 1) (⟨n.val % 512, by omega⟩ : Fin 512)) ?_).trans ?_
  · rw [Shape.rowMajor_val_one, Shape.rowMajor_val_three]
    show (n.val / 512 * 1 + 0) * 512 + n.val % 512 = n.val
    omega
  · unfold idxArr
    rw [dst_V1]
    refine congrArg (fun k => BitVec.ofNat 32 (firstMin (dist (argZ m d) (argB m d) k)).val) (Fin.ext ?_)
    show n.val / 512 * 512 + n.val % 512 = n.val
    omega

theorem toNat_ofNat_fin (k : Fin 8192) : (BitVec.ofNat 32 k.val).toNat = k.val := by
  rw [BitVec.toNat_ofNat]; omega

/-- The TensorCore call's indices are rows of the codebook. -/
theorem inRows : InRows (scI m) := fun d j => by
  obtain ⟨n, rfl⟩ : ∃ n : Fin 8192, (j : S8192.Idx) = ix1 n := ⟨j 0, eq_ix1 j⟩
  rw [scI_apply, toNat_ofNat_fin]
  exact Fin.isLt _

theorem scT_apply (k : Fin 8192) (c : Fin 32) : scT m d (ix2 k (⟨c.val, by omega⟩ : Fin 128)) = argB m d (ix2 k c) := by
  have h : scT m d = pad S8192x128 ![0, 0] ![0, 96] ![0, 0] (argB m d) (sitofp (F := Ideal) .f32 (constantI S_ 32 0#32)) pads_S8192x32_S8192x128_000_0960 h_S_ := by
    unfold scT V3 opsB; after_results_simp; rw [V2_arg1]; rfl
  rw [h]
  refine pad_apply_of_inside _ _ _ _ _ _ _ _ _ fun a => ?_
  match a with
  | ⟨0, _⟩ => show k.val = 0 + k.val * (0 + 1); omega
  | ⟨1, _⟩ => show c.val = 0 + c.val * (0 + 1); omega

/-! ## The results -/

theorem V5_arg0 : V5 m d (main_arg0 : DevRef τ sig) = argZ m d := by
  have h2 : V2 m d (main_arg0 : DevRef τ sig) = argZ m d :=
    (afterTc_of_ne (V1 m) d _ (by decide) (by decide) (by decide) (by decide)).trans (V1_arg0 m d)
  have h3 : V3 m d (main_arg0 : DevRef τ sig) = argZ m d := by unfold V3 opsB; after_results_simp; exact h2
  have h4 : V4 m d (main_arg0 : DevRef τ sig) = argZ m d := (Function.update_of_ne (by decide) _ _).trans h3
  unfold V5 opsC; after_results_simp; exact h4

theorem V5_arg1 : V5 m d (main_arg1 : DevRef τ sig) = argB m d := by
  have h3 : V3 m d (main_arg1 : DevRef τ sig) = argB m d := by unfold V3 opsB; after_results_simp; exact V2_arg1 m d
  have h4 : V4 m d (main_arg1 : DevRef τ sig) = argB m d := (Function.update_of_ne (by decide) _ _).trans h3
  unfold V5 opsC; after_results_simp; exact h4

/-- The distances. -/
theorem V5_dist : V5 m d (main_v6_0 : DevRef τ sig) = (fun i => dist (argZ m d) (argB m d) (i 0) (i 1) : S8192x8192.Idx → EReal) := by
  have h2 : V2 m d (main_v6_0 : DevRef τ sig) = (fun i => dist (argZ m d) (argB m d) (i 0) (i 1) : S8192x8192.Idx → EReal) := by
    refine ((afterTc_dist (V1 m) d).trans (arr_dist (V1 m) d)).trans ?_
    rw [dst_V1]
  have h3 : V3 m d (main_v6_0 : DevRef τ sig) = (fun i => dist (argZ m d) (argB m d) (i 0) (i 1) : S8192x8192.Idx → EReal) := by
    unfold V3 opsB; after_results_simp; exact h2
  have h4 := (Function.update_of_ne (f := V3 m d) (show (main_v6_0 : DevRef τ sig) ≠ main_v9 by decide) (gathered (scI m) (scT m) d)).trans h3
  unfold V5 opsC; after_results_simp; exact h4

/-- The indices. -/
theorem V5_idx : V5 m d (main_v7 : DevRef τ sig)
    = (fun i => BitVec.ofNat 32 (firstMin (dist (argZ m d) (argB m d) (i 0))).val : S8192.Idx → BitVec 32) := by
  have h4 : V4 m d (main_v7 : DevRef τ sig)
      = (fun i => BitVec.ofNat 32 (firstMin (dist (argZ m d) (argB m d) (i 0))).val : S8192.Idx → BitVec 32) := by
    rw [V4_idx]
    funext i
    obtain ⟨n, rfl⟩ : ∃ n : Fin 8192, (i : S8192.Idx) = ix1 n := ⟨i 0, eq_ix1 i⟩
    exact scI_apply m d n
  unfold V5 opsC; after_results_simp; exact h4

/-- The image row at batch `b`, line `h`, column `w`. -/
def rowAt (b : Fin 8) (h w : Fin 32) : Fin 8192 := ⟨b.val * 1024 + h.val * 32 + w.val, by omega⟩

/-- The quantized images. -/
theorem V5_zq (b : Fin 8) (c h w : Fin 32) : (V5 m d (main_v12 : DevRef τ sig) : S8x32x32x32.Idx → EReal) (ix4 b c h w)
    = argB m d (ix2 (firstMin (dist (argZ m d) (argB m d) (rowAt b h w))) c) := by
  have e : (V5 m d (main_v12 : DevRef τ sig) : S8x32x32x32.Idx → EReal)
      = transpose S8x32x32x32 [0, 3, 1, 2] (shapeCast S8x32x32x32 (extractStridedSlice S8192x32 ![0, 0] (gathered (scI m) (scT m) d)
          slices_S8192x128_S8192x32_0_0) shapeCasts_S8192x32_S8x32x32x32) transposes_S8x32x32x32_S8x32x32x32_0_3_1_2 := by
    unfold V5 opsC; after_results_simp; rw [V4_out]; rfl
  rw [e]
  refine (transpose_apply _ _ _ _ (ix4 b h w c) fun x => ?_).trans ?_
  · match x with
    | ⟨0, _⟩ => rfl
    | ⟨1, _⟩ => rfl
    | ⟨2, _⟩ => rfl
    | ⟨3, _⟩ => rfl
  refine (shapeCast_apply _ _ _ (ix2 (rowAt b h w) c) ?_).trans ?_
  · rw [Shape.rowMajor_val_two, Shape.rowMajor_val_four]
    show (b.val * 1024 + h.val * 32 + w.val) * 32 + c.val = ((b.val * 32 + h.val) * 32 + w.val) * 32 + c.val
    omega
  refine (slice2_axis1_apply 0 _ _ _ c (⟨c.val, by omega⟩ : Fin 128) (Nat.zero_add _).symm).trans ?_
  unfold gathered
  have hi : scI m d (iIx (rowAt b h w)) = BitVec.ofNat 32 (firstMin (dist (argZ m d) (argB m d) (rowAt b h w))).val :=
    (congrArg (scI m d) (eq_ix1 _)).trans (scI_apply m d _)
  show scT m d (tIx (Fin.ofNat 8192 (scI m d (iIx (rowAt b h w))).toNat) (⟨c.val, by omega⟩ : Fin 128)) = _
  rw [hi, toNat_ofNat_fin]
  refine Eq.trans (congrArg (scT m d) ?_) (scT_apply m d (firstMin (dist (argZ m d) (argB m d) (rowAt b h w))) c)
  refine (eq_ix2 _).trans (congrArg (fun k : Fin 8192 => ix2 k (⟨c.val, by omega⟩ : Fin 128)) (Fin.ext ?_))
  show (firstMin (dist (argZ m d) (argB m d) (rowAt b h w))).val % 8192 = _
  omega

/-- How often codebook row `j` is the first nearest. -/
def hits (Z : S8x32x32x32.Idx → EReal) (B : S8192x32.Idx → EReal) (j : Fin 8192) : EReal :=
  ∑ n : Fin 8192, if j = firstMin (dist Z B n) then 1 else 0

/-- The loss. -/
theorem V5_loss : V5 m d (main_v13 : DevRef τ sig) = (fun _ => Ideal.div (Ideal.ofBits .f32 0x3FA00000#32
      * ∑ n : Fin 8192, dist (argZ m d) (argB m d) n (firstMin (dist (argZ m d) (argB m d) n))) (Ideal.ofBits .f32 0x48800000#32) : S_.Idx → EReal) := by
  have h2 := (afterTc_loss (V1 m) d).trans (arr_loss (V1 m) d)
  rw [least, dst_V1] at h2
  have h3 : V3 m d (main_v6_2 : DevRef τ sig) = V2 m d (main_v6_2 : DevRef τ sig) := by unfold V3 opsB; after_results_simp
  have h4 := ((Function.update_of_ne (f := V3 m d) (show (main_v6_2 : DevRef τ sig) ≠ main_v9 by decide) (gathered (scI m) (scT m) d)).trans h3).trans h2
  have h5 : (V5 m d (main_v13 : DevRef τ sig) : S_.Idx → EReal) = shapeCast S_ (V4 m d (main_v6_2 : DevRef τ sig) : S1x1.Idx → EReal) shapeCasts_S1x1_S_ := by
    unfold V5 opsC; after_results_simp; rfl
  rw [h5, show V4 m d (main_v6_2 : DevRef τ sig) = _ from h4]
  rfl

/-- The perplexity. -/
theorem V5_perp : V5 m d (main_v14 : DevRef τ sig) = (fun _ => perpOf (hits (argZ m d) (argB m d)) : S_.Idx → EReal) := by
  have h2 := (afterTc_perp (V1 m) d).trans (arr_perp (V1 m) d)
  rw [show often (V1 m) d = hits (argZ m d) (argB m d) by unfold often hits; rw [dst_V1]] at h2
  have h3 : V3 m d (main_v6_3 : DevRef τ sig) = V2 m d (main_v6_3 : DevRef τ sig) := by unfold V3 opsB; after_results_simp
  have h4 := ((Function.update_of_ne (f := V3 m d) (show (main_v6_3 : DevRef τ sig) ≠ main_v9 by decide) (gathered (scI m) (scT m) d)).trans h3).trans h2
  have h5 : (V5 m d (main_v14 : DevRef τ sig) : S_.Idx → EReal) = shapeCast S_ (V4 m d (main_v6_3 : DevRef τ sig) : S1x1.Idx → EReal) shapeCasts_S1x1_S_ := by
    unfold V5 opsC; after_results_simp; rfl
  rw [h5, show V4 m d (main_v6_3 : DevRef τ sig) = _ from h4]
  rfl

end Cert.Proof.VQ
-- ==== Proof.RefRun.lean ====
/-
  The reference's run: its host operations in four lines, the contents of its buffers after each.
-/
module

public import proofs.«01_k».proof.Proof.Gen.ReferenceIdeal
public import Idealize.ShloMosaic.Lib.StableHlo.Run

@[expose] public section

noncomputable section

namespace Cert.Proof.VQ.R

open Cert.ReferenceIdeal Cert.ReferenceIdeal.Gen
open Idealize.ShloMosaic Idealize.ShloMosaic.TcCoe Idealize.SL.Sem

variable {F : FTy → Type} [FloatOps F]

/-- To the distances. -/
def opsA : List (HloOp τ sig (Elt F)) := [
  (StableHlo.unary main_arg0 main_v0 ((transpose S8x32x32x32 [0, 2, 3, 1] · transposes_S8x32x32x32_S8x32x32x32_0_2_3_1) : (⟨S8x32x32x32, .f32⟩ : BufTy).Contents (Elt F) → (⟨S8x32x32x32, .f32⟩ : BufTy).Contents (Elt F))),
  (StableHlo.reshape main_v0 main_v1 (rfl : (.f32 : EltTy) = .f32) shapeCasts_S8x32x32x32_S8192x32),
  (StableHlo.binary main_v1 main_v1 main_v2 (mulf : (⟨S8192x32, .f32⟩ : BufTy).Contents (Elt F) → (⟨S8192x32, .f32⟩ : BufTy).Contents (Elt F) → (⟨S8192x32, .f32⟩ : BufTy).Contents (Elt F))),
  (StableHlo.nullary main_cst (constant S_ .f32 0x00000000#32)),
  (StableHlo.binary main_v2 main_cst main_v3 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F))),
  (StableHlo.unary main_v3 main_v4 (broadcastInDim S8192x1 ![0] bcast_S8192_S8192x1_0 : (⟨S8192, .f32⟩ : BufTy).Contents (Elt F) → (⟨S8192x1, .f32⟩ : BufTy).Contents (Elt F))),
  (StableHlo.binary main_arg1 main_arg1 main_v5 (mulf : (⟨S8192x32, .f32⟩ : BufTy).Contents (Elt F) → (⟨S8192x32, .f32⟩ : BufTy).Contents (Elt F) → (⟨S8192x32, .f32⟩ : BufTy).Contents (Elt F))),
  (StableHlo.nullary main_cst_0 (constant S_ .f32 0x00000000#32)),
  (StableHlo.binary main_v5 main_cst_0 main_v6 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F))),
  (StableHlo.unary main_v6 main_v7 (broadcastInDim S1x8192 ![1] bcast_S8192_S1x8192_1 : (⟨S8192, .f32⟩ : BufTy).Contents (Elt F) → (⟨S1x8192, .f32⟩ : BufTy).Contents (Elt F))),
  (StableHlo.unary main_v4 main_v8 (broadcastInDim S8192x8192 ![0, 1] bcast_S8192x1_S8192x8192_0_1 : (⟨S8192x1, .f32⟩ : BufTy).Contents (Elt F) → (⟨S8192x8192, .f32⟩ : BufTy).Contents (Elt F))),
  (StableHlo.unary main_v7 main_v9 (broadcastInDim S8192x8192 ![0, 1] bcast_S1x8192_S8192x8192_0_1 : (⟨S1x8192, .f32⟩ : BufTy).Contents (Elt F) → (⟨S8192x8192, .f32⟩ : BufTy).Contents (Elt F))),
  (StableHlo.binary main_v8 main_v9 main_v10 (addf : (⟨S8192x8192, .f32⟩ : BufTy).Contents (Elt F) → (⟨S8192x8192, .f32⟩ : BufTy).Contents (Elt F) → (⟨S8192x8192, .f32⟩ : BufTy).Contents (Elt F))),
  (StableHlo.unary main_arg1 main_v11 ((transpose S32x8192 [1, 0] · transposes_S8192x32_S32x8192_1_0) : (⟨S8192x32, .f32⟩ : BufTy).Contents (Elt F) → (⟨S32x8192, .f32⟩ : BufTy).Contents (Elt F))),
  (StableHlo.binary main_v1 main_v11 main_v12 ((fun l r => Host.dotGeneral dot_S8192x32_S32x8192_S8192x8192_1_0_0_1_n_n none l r) : (⟨S8192x32, .f32⟩ : BufTy).Contents (Elt F) → (⟨S32x8192, .f32⟩ : BufTy).Contents (Elt F) → (⟨S8192x8192, .f32⟩ : BufTy).Contents (Elt F))),
  (StableHlo.nullary main_cst_1 (constant S_ .f32 0x40000000#32)),
  (StableHlo.unary main_cst_1 main_v13 (broadcastInDim S8192x8192 ![] bcast_S_S8192x8192 : (⟨S_, .f32⟩ : BufTy).Contents (Elt F) → (⟨S8192x8192, .f32⟩ : BufTy).Contents (Elt F))),
  (StableHlo.binary main_v13 main_v12 main_v14 (mulf : (⟨S8192x8192, .f32⟩ : BufTy).Contents (Elt F) → (⟨S8192x8192, .f32⟩ : BufTy).Contents (Elt F) → (⟨S8192x8192, .f32⟩ : BufTy).Contents (Elt F))),
  (StableHlo.binary main_v10 main_v14 main_v15 (subf : (⟨S8192x8192, .f32⟩ : BufTy).Contents (Elt F) → (⟨S8192x8192, .f32⟩ : BufTy).Contents (Elt F) → (⟨S8192x8192, .f32⟩ : BufTy).Contents (Elt F)))]

theorem opsA_sub : (opsA (F := F)).Forall fun op => op.bufs ⊆ StableHlo.tcRefs τ sig :=
  ⟨StableHlo.unary_bufs_sub .., StableHlo.reshape_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub ..⟩
theorem opsA_fresh : (opsA (F := F)).Forall fun op => op.fresh = ∅ := ⟨rfl, rfl, rfl, rfl, rfl, rfl, rfl, rfl, rfl, rfl, rfl, rfl, rfl, rfl, rfl, rfl, rfl, rfl, rfl⟩

/-- The first nearest codebook row of each row, and the one-hot rows of those. -/
def opsB : List (HloOp τ sig (Elt F)) := [
  (StableHlo.TRef.nullary main_call0.v0 (iotaInDim S8192x8192 32 1)),
  (StableHlo.TRef.nullary main_call0.cst (constant S_ .f32 0x7F800000#32)),
  (StableHlo.TRef.nullary main_call0.c (constantI S_ 32 0#32)),
  (StableHlo.TRef.quaternary (.of main_v15 : StableHlo.TRef sig ⟨S8192x8192, .f32⟩) main_call0.v0 main_call0.cst main_call0.c main_call0.v1_0 (fun x y u v j => (Host.argReduce reducer_argmin_f32_i32 x y u v reducesTo_S8192x8192_S8192_d1 h_S_ j).1)),
  (StableHlo.TRef.quaternary (.of main_v15 : StableHlo.TRef sig ⟨S8192x8192, .f32⟩) main_call0.v0 main_call0.cst main_call0.c main_call0.v1_1 (fun x y u v j => (Host.argReduce reducer_argmin_f32_i32 x y u v reducesTo_S8192x8192_S8192_d1 h_S_ j).2)),
  (StableHlo.TRef.unary (.of main_v16 : StableHlo.TRef sig ⟨S8192, .i32⟩) main_call1.v0 (broadcastInDim S8192x1 ![0] bcast_S8192_S8192x1_0)),
  (StableHlo.TRef.nullary main_call1.v1 (iotaInDim S1x8192 32 1)),
  (StableHlo.TRef.unary main_call1.v0 main_call1.v2 (broadcastInDim S8192x8192 ![0, 1] bcast_S8192x1_S8192x8192_0_1)),
  (StableHlo.TRef.unary main_call1.v1 main_call1.v3 (broadcastInDim S8192x8192 ![0, 1] bcast_S1x8192_S8192x8192_0_1)),
  (StableHlo.TRef.binary main_call1.v2 main_call1.v3 main_call1.v4 (cmpi .eq)),
  (StableHlo.TRef.unary main_call1.v4 main_call1.v5 (uitofp .f32))]

theorem opsB_sub : (opsB (F := F)).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub .., StableHlo.unary_bufs_sub .., StableHlo.nullary_bufs_sub .., StableHlo.unary_bufs_sub .., StableHlo.unary_bufs_sub .., StableHlo.binary_bufs_sub .., StableHlo.unary_bufs_sub ..⟩
theorem opsB_fresh : (opsB (F := F)).Forall fun op => op.fresh = ∅ := ⟨rfl, rfl, rfl, rfl, rfl, rfl, rfl, rfl, rfl, rfl, rfl⟩

/-- The quantized rows, the loss and the quantized images. -/
def opsC : List (HloOp τ sig (Elt F)) := [
  (StableHlo.binary main_v17 main_arg1 main_v18 ((fun l r => Host.dotGeneral dot_S8192x8192_S8192x32_S8192x32_1_0_0_1_n_n none l r) : (⟨S8192x8192, .f32⟩ : BufTy).Contents (Elt F) → (⟨S8192x32, .f32⟩ : BufTy).Contents (Elt F) → (⟨S8192x32, .f32⟩ : BufTy).Contents (Elt F))),
  (StableHlo.reshape main_v18 main_v19 (rfl : (.f32 : EltTy) = .f32) shapeCasts_S8192x32_S8x32x32x32),
  (StableHlo.binary main_v19 main_v0 main_v20 (subf : (⟨S8x32x32x32, .f32⟩ : BufTy).Contents (Elt F) → (⟨S8x32x32x32, .f32⟩ : BufTy).Contents (Elt F) → (⟨S8x32x32x32, .f32⟩ : BufTy).Contents (Elt F))),
  (StableHlo.binary main_v20 main_v20 main_v21 (mulf : (⟨S8x32x32x32, .f32⟩ : BufTy).Contents (Elt F) → (⟨S8x32x32x32, .f32⟩ : BufTy).Contents (Elt F) → (⟨S8x32x32x32, .f32⟩ : BufTy).Contents (Elt F))),
  (StableHlo.nullary main_cst_2 (constant S_ .f32 0x00000000#32)),
  (StableHlo.binary main_v21 main_cst_2 main_v22 ((fun x v => Host.reduceAdd x v reducesTo_S8x32x32x32_S_d0_1_2_3 h_S_) : (⟨S8x32x32x32, .f32⟩ : BufTy).Contents (Elt F) → (⟨S_, .f32⟩ : BufTy).Contents (Elt F) → (⟨S_, .f32⟩ : BufTy).Contents (Elt F))),
  (StableHlo.nullary main_cst_3 (constant S_ .f32 0x48800000#32)),
  (StableHlo.binary main_v22 main_cst_3 main_v23 (Host.divf : (⟨S_, .f32⟩ : BufTy).Contents (Elt F) → (⟨S_, .f32⟩ : BufTy).Contents (Elt F) → (⟨S_, .f32⟩ : BufTy).Contents (Elt F))),
  (StableHlo.binary main_v19 main_v0 main_v24 (subf : (⟨S8x32x32x32, .f32⟩ : BufTy).Contents (Elt F) → (⟨S8x32x32x32, .f32⟩ : BufTy).Contents (Elt F) → (⟨S8x32x32x32, .f32⟩ : BufTy).Contents (Elt F))),
  (StableHlo.binary main_v24 main_v24 main_v25 (mulf : (⟨S8x32x32x32, .f32⟩ : BufTy).Contents (Elt F) → (⟨S8x32x32x32, .f32⟩ : BufTy).Contents (Elt F) → (⟨S8x32x32x32, .f32⟩ : BufTy).Contents (Elt F))),
  (StableHlo.nullary main_cst_4 (constant S_ .f32 0x00000000#32)),
  (StableHlo.binary main_v25 main_cst_4 main_v26 ((fun x v => Host.reduceAdd x v reducesTo_S8x32x32x32_S_d0_1_2_3 h_S_) : (⟨S8x32x32x32, .f32⟩ : BufTy).Contents (Elt F) → (⟨S_, .f32⟩ : BufTy).Contents (Elt F) → (⟨S_, .f32⟩ : BufTy).Contents (Elt F))),
  (StableHlo.nullary main_cst_5 (constant S_ .f32 0x48800000#32)),
  (StableHlo.binary main_v26 main_cst_5 main_v27 (Host.divf : (⟨S_, .f32⟩ : BufTy).Contents (Elt F) → (⟨S_, .f32⟩ : BufTy).Contents (Elt F) → (⟨S_, .f32⟩ : BufTy).Contents (Elt F))),
  (StableHlo.nullary main_cst_6 (constant S_ .f32 0x3E800000#32)),
  (StableHlo.binary main_cst_6 main_v23 main_v28 (mulf : (⟨S_, .f32⟩ : BufTy).Contents (Elt F) → (⟨S_, .f32⟩ : BufTy).Contents (Elt F) → (⟨S_, .f32⟩ : BufTy).Contents (Elt F))),
  (StableHlo.binary main_v27 main_v28 main_v29 (addf : (⟨S_, .f32⟩ : BufTy).Contents (Elt F) → (⟨S_, .f32⟩ : BufTy).Contents (Elt F) → (⟨S_, .f32⟩ : BufTy).Contents (Elt F))),
  (StableHlo.binary main_v19 main_v0 main_v30 (subf : (⟨S8x32x32x32, .f32⟩ : BufTy).Contents (Elt F) → (⟨S8x32x32x32, .f32⟩ : BufTy).Contents (Elt F) → (⟨S8x32x32x32, .f32⟩ : BufTy).Contents (Elt F))),
  (StableHlo.binary main_v0 main_v30 main_v31 (addf : (⟨S8x32x32x32, .f32⟩ : BufTy).Contents (Elt F) → (⟨S8x32x32x32, .f32⟩ : BufTy).Contents (Elt F) → (⟨S8x32x32x32, .f32⟩ : BufTy).Contents (Elt F))),
  (StableHlo.unary main_v31 main_v32 ((transpose S8x32x32x32 [0, 3, 1, 2] · transposes_S8x32x32x32_S8x32x32x32_0_3_1_2) : (⟨S8x32x32x32, .f32⟩ : BufTy).Contents (Elt F) → (⟨S8x32x32x32, .f32⟩ : BufTy).Contents (Elt F)))]

theorem opsC_sub : (opsC (F := F)).Forall fun op => op.bufs ⊆ StableHlo.tcRefs τ sig :=
  ⟨StableHlo.binary_bufs_sub .., StableHlo.reshape_bufs_sub .., StableHlo.binary_bufs_sub .., StableHlo.binary_bufs_sub .., StableHlo.nullary_bufs_sub .., StableHlo.binary_bufs_sub .., StableHlo.nullary_bufs_sub .., StableHlo.binary_bufs_sub .., StableHlo.binary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.binary_bufs_sub .., StableHlo.binary_bufs_sub .., StableHlo.unary_bufs_sub ..⟩
theorem opsC_fresh : (opsC (F := F)).Forall fun op => op.fresh = ∅ := ⟨rfl, rfl, rfl, rfl, rfl, rfl, rfl, rfl, rfl, rfl, rfl, rfl, rfl, rfl, rfl, rfl, rfl, rfl, rfl, rfl⟩

/-- The perplexity. -/
def opsD : List (HloOp τ sig (Elt F)) := [
  (StableHlo.nullary main_cst_7 (constant S_ .f32 0x00000000#32)),
  (StableHlo.binary main_v17 main_cst_7 main_v33 ((fun x v => Host.reduceAdd x v reducesTo_S8192x8192_S8192_d0 h_S_) : (⟨S8192x8192, .f32⟩ : BufTy).Contents (Elt F) → (⟨S_, .f32⟩ : BufTy).Contents (Elt F) → (⟨S8192, .f32⟩ : BufTy).Contents (Elt F))),
  (StableHlo.nullary main_cst_8 (constant S_ .f32 0x46000000#32)),
  (StableHlo.unary main_cst_8 main_v34 (broadcastInDim S8192 ![] bcast_S_S8192 : (⟨S_, .f32⟩ : BufTy).Contents (Elt F) → (⟨S8192, .f32⟩ : BufTy).Contents (Elt F))),
  (StableHlo.binary main_v33 main_v34 main_v35 (Host.divf : (⟨S8192, .f32⟩ : BufTy).Contents (Elt F) → (⟨S8192, .f32⟩ : BufTy).Contents (Elt F) → (⟨S8192, .f32⟩ : BufTy).Contents (Elt F))),
  (StableHlo.nullary main_cst_9 (constant S_ .f32 0x2EDBE6FF#32)),
  (StableHlo.unary main_cst_9 main_v36 (broadcastInDim S8192 ![] bcast_S_S8192 : (⟨S_, .f32⟩ : BufTy).Contents (Elt F) → (⟨S8192, .f32⟩ : BufTy).Contents (Elt F))),
  (StableHlo.binary main_v35 main_v36 main_v37 (addf : (⟨S8192, .f32⟩ : BufTy).Contents (Elt F) → (⟨S8192, .f32⟩ : BufTy).Contents (Elt F) → (⟨S8192, .f32⟩ : BufTy).Contents (Elt F))),
  (StableHlo.unary main_v37 main_v38 (Host.log : (⟨S8192, .f32⟩ : BufTy).Contents (Elt F) → (⟨S8192, .f32⟩ : BufTy).Contents (Elt F))),
  (StableHlo.binary main_v35 main_v38 main_v39 (mulf : (⟨S8192, .f32⟩ : BufTy).Contents (Elt F) → (⟨S8192, .f32⟩ : BufTy).Contents (Elt F) → (⟨S8192, .f32⟩ : BufTy).Contents (Elt F))),
  (StableHlo.nullary main_cst_10 (constant S_ .f32 0x00000000#32)),
  (StableHlo.binary main_v39 main_cst_10 main_v40 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F))),
  (StableHlo.unary main_v40 main_v41 (Host.negf : (⟨S_, .f32⟩ : BufTy).Contents (Elt F) → (⟨S_, .f32⟩ : BufTy).Contents (Elt F))),
  (StableHlo.unary main_v41 main_v42 (Host.exp : (⟨S_, .f32⟩ : BufTy).Contents (Elt F) → (⟨S_, .f32⟩ : BufTy).Contents (Elt F)))]

theorem opsD_sub : (opsD (F := F)).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub ..⟩
theorem opsD_fresh : (opsD (F := F)).Forall fun op => op.fresh = ∅ := ⟨rfl, rfl, rfl, rfl, rfl, rfl, rfl, rfl, rfl, rfl, rfl, rfl, rfl, rfl⟩

theorem main_eq (d : Dev nD) : main (F := F) d = StableHlo.seq (opsA ++ (opsB ++ (opsC ++ opsD))) := rfl

theorem scopedRefs_eq : (Finset.univ.filter fun b : Ref sig .tc => b.isScoped) = ∅ := by decide
theorem scopedSems_eq : (Finset.univ.filter fun sm : SemLoc sig => sm.isScoped .tc) = ∅ := by decide

theorem after_cat (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

variable (m : (ℓ : Loc nD τ sig) → Buf (Elt F) ℓ) (d : Dev nD)

/-- The contents after each line. -/
def U1 : Valuation τ sig (Elt F) := StableHlo.after opsA (StableHlo.launchContents m d)
def U2 : Valuation τ sig (Elt F) := StableHlo.after opsB (U1 m d)
def U3 : Valuation τ sig (Elt F) := StableHlo.after opsC (U2 m d)
def U4 : Valuation τ sig (Elt F) := StableHlo.after opsD (U3 m d)

theorem run_main (ρ : Dev nD → PrngReg) :
    θ_run (defs (F := F)) (onTc (τ := τ) (main (F := F))) ⟨m, fun _ => 0, ρ⟩ fun r =>
      (∀ (d : Dev nD) (b : Ref sig .tc), r.2.mem ((d.tc : Thread nD τ).loc b) = U4 m d (b : DevRef τ sig)) := by
  refine (θ_run defs _ _).mono (fun r h d b => ?_) (StableHlo.run_seq scopedRefs_eq scopedSems_eq defs main
    (fun _ => opsA ++ (opsB ++ (opsC ++ opsD))) main_eq (fun _ => ?_) m ρ fun _ op hop => ?_)
  · refine (h d b).trans ?_
    unfold U4 U3 U2 U1
    rw [after_cat, after_cat, after_cat]
  · exact List.forall_append.mpr ⟨opsA_sub, List.forall_append.mpr ⟨opsB_sub, List.forall_append.mpr ⟨opsC_sub, opsD_sub⟩⟩⟩
  · exact List.forall_iff_forall_mem.mp (List.forall_append.mpr ⟨opsA_fresh, List.forall_append.mpr ⟨opsB_fresh,
      List.forall_append.mpr ⟨opsC_fresh, opsD_fresh⟩⟩⟩) op hop

theorem U4_arg0 : U4 m d (main_arg0 : DevRef τ sig) = m ((d.tc : Thread nD τ).loc main_arg0) := by
  have h1 : U1 m d (main_arg0 : DevRef τ sig) = m ((d.tc : Thread nD τ).loc main_arg0) := by unfold U1 opsA; after_results_simp
  have h2 : U2 m d (main_arg0 : DevRef τ sig) = m ((d.tc : Thread nD τ).loc main_arg0) := by unfold U2 opsB; after_results_simp; exact h1
  have h3 : U3 m d (main_arg0 : DevRef τ sig) = m ((d.tc : Thread nD τ).loc main_arg0) := by unfold U3 opsC; after_results_simp; exact h2
  unfold U4 opsD; after_results_simp; exact h3

theorem U4_arg1 : U4 m d (main_arg1 : DevRef τ sig) = m ((d.tc : Thread nD τ).loc main_arg1) := by
  have h1 : U1 m d (main_arg1 : DevRef τ sig) = m ((d.tc : Thread nD τ).loc main_arg1) := by unfold U1 opsA; after_results_simp
  have h2 : U2 m d (main_arg1 : DevRef τ sig) = m ((d.tc : Thread nD τ).loc main_arg1) := by unfold U2 opsB; after_results_simp; exact h1
  have h3 : U3 m d (main_arg1 : DevRef τ sig) = m ((d.tc : Thread nD τ).loc main_arg1) := by unfold U3 opsC; after_results_simp; exact h2
  unfold U4 opsD; after_results_simp; exact h3

end Cert.Proof.VQ.R
-- ==== Proof.Frames.lean ====
/-
  The two frames: each program runs, leaves its arguments as they were and every semaphore counter at zero.
-/
module

public import proofs.«01_k».proof.Defs
public import proofs.«01_k».proof.Proof.KerVal
public import proofs.«01_k».proof.Proof.RefRun

@[expose] public section

noncomputable section

namespace Cert.Proof.VQ

open Idealize.ShloMosaic Idealize.ShloMosaic.TcCoe Idealize.SL.Sem

/-- The kernel's run at the ideal floats. -/
theorem run_kernel (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (Cert.KernelIdeal.threads (F := Ideal)) ⟨m, fun _ => 0, g⟩ (fun r =>
      (∀ d, ∀ b ∈ Pipeline.ucRefs Cert.KernelIdeal.τ Cert.KernelIdeal.sig, r.2.mem (d, b) = V5 m d b) ∧ r.2.sem = fun _ => 0) :=
  run_main m g (inRows m)

theorem frame_kernel : Cert.quiescent_KernelIdeal := fun m g _ =>
  (θ_run Cert.KernelIdeal.defs _ _).mono (fun _ h => ⟨fun c => ⟨(h.1 c (Cert.KernelIdeal.main_arg0 : DevRef _ _) (by decide)).trans (V5_arg0 m c), (h.1 c (Cert.KernelIdeal.main_arg1 : DevRef _ _) (by decide)).trans (V5_arg1 m c)⟩, h.2⟩)
    (run_kernel m g)

theorem frame_reference : Cert.quiescent_ReferenceIdeal := fun m g _ =>
  (θ_run Cert.ReferenceIdeal.defs _ _).mono (fun r h => ⟨fun c => ⟨(h c _).trans (R.U4_arg0 m c), (h c _).trans (R.U4_arg1 m c)⟩,
    sem_eq_zero_of_no_sems (by decide) r.2⟩) (R.run_main m g)

/-- The same under the precondition of the values' claim, which the frames do not need. -/
theorem frame_kernel_finite [Cert.Pre_finite.Facts] : Cert.quiescent_KernelIdeal_pre_finite := fun m g _ => frame_kernel m g trivial
theorem frame_reference_finite [Cert.Pre_finite.Facts] : Cert.quiescent_ReferenceIdeal_pre_finite := fun m g _ => frame_reference m g trivial

end Cert.Proof.VQ
-- ==== Proof.RefVal.lean ====
/-
  The reference's results at the ideal floats, index by index, from its two arguments.
-/
module

public import proofs.«01_k».proof.Proof.RefRun
public import proofs.«01_k».proof.Proof.KerVal
public import Idealize.ShloMosaic.Lib.StackMember

@[expose] public section

noncomputable section

namespace Cert.Proof.VQ.R

open Cert.ReferenceIdeal Cert.ReferenceIdeal.Gen
open Idealize.ShloMosaic hiding ix1 ix2 ix3 ix4 eq_ix1 eq_ix2 eq_ix3 eq_ix4
open Idealize.ShloMosaic.ValueIdx Idealize.ShloMosaic.TcCoe

variable (m : (ℓ : Loc nD τ sig) → Buf (Elt Ideal) ℓ) (d : Dev nD)

abbrev rZ : S8x32x32x32.Idx → EReal := m ((d.tc : Thread nD τ).loc main_arg0)
abbrev rB : S8192x32.Idx → EReal := m ((d.tc : Thread nD τ).loc main_arg1)

section Terms

variable (Z : S8x32x32x32.Idx → EReal) (B : S8192x32.Idx → EReal)

/-- The images with the channel last. -/
def perm : S8x32x32x32.Idx → EReal := transpose S8x32x32x32 [0, 2, 3, 1] Z transposes_S8x32x32x32_S8x32x32x32_0_2_3_1
/-- Their rows. -/
def flat : S8192x32.Idx → EReal := shapeCast S8192x32 (perm Z) shapeCasts_S8x32x32x32_S8192x32
/-- The zero scalar. -/
abbrev zero : S_.Idx → EReal := constant (F := Ideal) S_ .f32 0x00000000#32
/-- Each row's sum of squares. -/
def sq (X : S8192x32.Idx → EReal) : S8192.Idx → EReal :=
  Host.reduceAdd (F := Ideal) (φ := .f32) (mulf (F := Ideal) (φ := .f32) X X) zero reducesTo_S8192x32_S8192_d1 h_S_
/-- The distances. -/
def dists : S8192x8192.Idx → EReal :=
  subf (F := Ideal) (φ := .f32)
    (addf (F := Ideal) (φ := .f32)
      (broadcastInDim S8192x8192 ![0, 1] bcast_S8192x1_S8192x8192_0_1 (broadcastInDim S8192x1 ![0] bcast_S8192_S8192x1_0 (sq (flat Z))))
      (broadcastInDim S8192x8192 ![0, 1] bcast_S1x8192_S8192x8192_0_1 (broadcastInDim S1x8192 ![1] bcast_S8192_S1x8192_1 (sq B))))
    (mulf (F := Ideal) (φ := .f32)
      (broadcastInDim S8192x8192 ![] bcast_S_S8192x8192 (constant (F := Ideal) S_ .f32 0x40000000#32))
      (Host.dotGeneral (F := Ideal) (φ₁ := .f32) (φ₂ := .f32) dot_S8192x32_S32x8192_S8192x8192_1_0_0_1_n_n none (flat Z)
        (transpose S32x8192 [1, 0] B transposes_S8192x32_S32x8192_1_0)))

theorem perm_apply (b : Fin 8) (h w c : Fin 32) : perm Z (ix4 b h w c) = Z (ix4 b c h w) := by
  unfold perm
  refine transpose_apply _ _ _ _ (ix4 b c h w) fun x => ?_
  match x with
  | ⟨0, _⟩ => rfl
  | ⟨1, _⟩ => rfl
  | ⟨2, _⟩ => rfl
  | ⟨3, _⟩ => rfl

theorem flat_apply (n : Fin 8192) (c : Fin 32) : flat Z (ix2 n c) = zrow Z n c := by
  unfold flat
  refine (shapeCast_apply _ _ _ (ix4 (rb n) (rh n) (rw' n) c) ?_).trans (perm_apply Z _ _ _ _)
  rw [Shape.rowMajor_val_two, Shape.rowMajor_val_four]
  show ((n.val / 1024 * 32 + n.val % 1024 / 32) * 32 + n.val % 32) * 32 + c.val = n.val * 32 + c.val
  omega

theorem red1 : S8192x32.Reduces [1] S8192 := by decide

theorem sq_apply (X : S8192x32.Idx → EReal) (n : Fin 8192) :
    sq X (ix1 n) = Ideal.ofBits .f32 0x00000000#32 + ∑ c : Fin 32, X (ix2 n c) * X (ix2 n c) := by
  unfold sq
  rw [hostReduceAdd_apply, Ideal.hostReduceAdd_single _ red1]
  refine congrArg₂ (· + ·) rfl (Finset.sum_congr rfl fun (c : Fin 32) _ => ?_)
  rw [show red1.lift (ix1 n) c = ix2 n c from lift_row _ _ _, mulf_apply]

theorem dists_apply (n j : Fin 8192) : dists Z B (ix2 n j) = dist Z B n j := by
  unfold dists dist
  show (_ + _) - _ * _ = _
  refine congrArg₂ (· - ·) (congrArg₂ (· + ·) ?_ ?_) (congrArg₂ (· * ·) rfl ?_)
  · refine (broadcastInDim_apply _ _ _ _ (ix2 n (0 : Fin 1)) fun a => ?_).trans
      ((broadcastInDim_apply _ _ _ _ (ix1 n) fun a => ?_).trans ((sq_apply _ n).trans ?_))
    · match a with
      | ⟨0, _⟩ => rfl
      | ⟨1, _⟩ => rfl
    · match a with
      | ⟨0, _⟩ => rfl
    · exact congrArg₂ (· + ·) rfl (Finset.sum_congr rfl fun c _ => by rw [flat_apply])
  · refine (broadcastInDim_apply _ _ _ _ (ix2 (0 : Fin 1) j) fun a => ?_).trans
      ((broadcastInDim_apply _ _ _ _ (ix1 j) fun a => ?_).trans (sq_apply _ j))
    · match a with
      | ⟨0, _⟩ => rfl
      | ⟨1, _⟩ => rfl
    · match a with
      | ⟨0, _⟩ => rfl
  · refine (StackMember.dotGeneral_plain_apply (m := 8192) (k := 32) (n := 8192) (φ₁ := .f32) (φ₂ := .f32) none (flat Z)
      (transpose S32x8192 [1, 0] B transposes_S8192x32_S32x8192_1_0) n j).trans ?_
    refine Finset.sum_congr rfl fun c _ => congrArg₂ (· * ·) (flat_apply Z n c) ?_
    exact transpose_ix2_apply _ _ c j

end Terms

theorem U1_dist : U1 m d (main_v15 : DevRef τ sig) = (dists (rZ m d) (rB m d) : S8192x8192.Idx → EReal) := by
  unfold U1 opsA; after_results_simp; rfl
theorem U1_perm : U1 m d (main_v0 : DevRef τ sig) = (perm (rZ m d) : S8x32x32x32.Idx → EReal) := by
  unfold U1 opsA; after_results_simp; rfl
theorem U1_arg1 : U1 m d (main_arg1 : DevRef τ sig) = rB m d := by unfold U1 opsA; after_results_simp

end Cert.Proof.VQ.R
-- ==== Proof.RefIdx.lean ====
/-
  The reference's indices and their one-hot rows at the ideal floats, index by index.
-/
module

public import proofs.«01_k».proof.Proof.RefVal
public import Idealize.ShloMosaic.Lib.StackMember

@[expose] public section

noncomputable section

namespace Cert.Proof.VQ.R

open Cert.ReferenceIdeal Cert.ReferenceIdeal.Gen
open Idealize.ShloMosaic hiding ix1 ix2 ix3 ix4 eq_ix1 eq_ix2 eq_ix3 eq_ix4
open Idealize.ShloMosaic.ValueIdx Idealize.ShloMosaic.TcCoe

/-! ## The indices and their one-hot rows -/

theorem red1sq : S8192x8192.Reduces [1] S8192 := by decide
theorem red0sq : S8192x8192.Reduces [0] S8192 := by decide

/-- Each row's first least index. -/
def amin (D : S8192x8192.Idx → EReal) : S8192.Idx → BitVec 32 := fun j =>
  (Host.argReduce (F := Ideal) (φ := .f32) (reducer_argmin_f32_i32 (F := Ideal)) D (iotaInDim S8192x8192 32 1)
    (constant (F := Ideal) S_ .f32 0x7F800000#32) (constantI S_ 32 0#32) reducesTo_S8192x8192_S8192_d1 h_S_ j).2

/-- The pairs a row's fold runs over are those of the row. -/
theorem mem_fiber {α β : Type} {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → α) (y : (⟨2, ![a, b]⟩ : Shape).Idx → β)
    (n : Fin a) (q : α × β) : q ∈ Host.argReduceFiber x y h' (ix1 n) ↔ ∃ j : Fin b, q = (x (ix2 n j), y (ix2 n j)) := by
  unfold Host.argReduceFiber
  rw [List.mem_map]
  constructor
  · rintro ⟨p, hp, rfl⟩
    have hd : h'.drop ((⟨2, ![a, b]⟩ : Shape).rowMajor.symm p) = ix1 n := by simpa using (List.mem_filter.1 hp).2
    refine ⟨((⟨2, ![a, b]⟩ : Shape).rowMajor.symm p) 1, ?_⟩
    have hl := (h.lift_drop ((⟨2, ![a, b]⟩ : Shape).rowMajor.symm p)).symm.trans
      ((congrArg (fun j => h.lift j (((⟨2, ![a, b]⟩ : Shape).rowMajor.symm p) 1)) hd).trans (lift_row h n _))
    exact Prod.ext (congrArg x hl) (congrArg y hl)
  · rintro ⟨j, rfl⟩
    refine ⟨(⟨2, ![a, b]⟩ : Shape).rowMajor (ix2 n j), List.mem_filter.2 ⟨List.mem_finRange _, ?_⟩, ?_⟩
    · rw [Equiv.symm_apply_apply]
      have : h'.drop (ix2 n j) = ix1 n := (congrArg h.drop (lift_row h n j).symm).trans (h.drop_lift _ _)
      simpa using this
    · rw [Equiv.symm_apply_apply]

/-- A row's reduction over (value, index) pairs is a fold over some list of the row's pairs. -/
theorem argReduce_row {β : Type} {a b : ℕ} (h' : (⟨2, ![a, b]⟩ : Shape).ReducesTo [1] ⟨1, ![a]⟩)
    (h : (⟨2, ![a, b]⟩ : Shape).Reduces [1] ⟨1, ![a]⟩) (f : EReal × β → EReal × β → EReal × β) (x : (⟨2, ![a, b]⟩ : Shape).Idx → EReal)
    (y : (⟨2, ![a, b]⟩ : Shape).Idx → β) (u : S_.Idx → EReal) (v : S_.Idx → β) (hu : 0 < S_.numel) (e : EReal × β)
    (he : (u (Shape.Idx.first hu), v (Shape.Idx.first hu)) = e) (n : Fin a) :
    ∃ l : List (EReal × β), (∀ q, q ∈ l ↔ ∃ j : Fin b, q = (x (ix2 n j), y (ix2 n j)))
      ∧ Host.argReduce (F := Ideal) (φ := .f32) f x y u v h' hu (ix1 n) = l.foldl f e := by
  refine ⟨Host.argReduceFiber x y h' (ix1 n), fun q => mem_fiber h' h x y n q, ?_⟩
  rw [Ideal.argReduce_eq_reduce2, Host.reduce2_eq_foldl_fiber, he]

theorem amin_def (D : S8192x8192.Idx → EReal) : amin D = fun j =>
    (Host.argReduce (F := Ideal) (φ := .f32) (reducer_argmin_f32_i32 (F := Ideal)) D (iotaInDim S8192x8192 32 1)
      (constant (F := Ideal) S_ .f32 0x7F800000#32) (constantI S_ 32 0#32) reducesTo_S8192x8192_S8192_d1 h_S_ j).2 := rfl

theorem amin_apply (D : S8192x8192.Idx → EReal) (n : Fin 8192) :
    amin D (ix1 n) = BitVec.ofNat 32 (firstMin fun j => D (ix2 n j)).val := by
  obtain ⟨l, hl, he⟩ := argReduce_row reducesTo_S8192x8192_S8192_d1 red1sq (reducer_argmin_f32_i32 (F := Ideal)) D (iotaInDim S8192x8192 32 1)
    (constant (F := Ideal) S_ .f32 0x7F800000#32) (constantI S_ 32 0#32) h_S_ (⊤, 0#32) (Prod.ext ofBits_inf_f32 rfl) n
  exact (congrFun (amin_def D) (ix1 n)).trans ((congrArg Prod.snd he).trans (foldl_reducer_row (fun j => D (ix2 n j)) l hl))

/-- The one-hot rows of indices. -/
def onehot (I : S8192.Idx → BitVec 32) : S8192x8192.Idx → EReal :=
  uitofp (F := Ideal) .f32 (cmpi .eq
    (broadcastInDim S8192x8192 ![0, 1] bcast_S8192x1_S8192x8192_0_1 (broadcastInDim S8192x1 ![0] bcast_S8192_S8192x1_0 I))
    (broadcastInDim S8192x8192 ![0, 1] bcast_S1x8192_S8192x8192_0_1 (iotaInDim S1x8192 32 1)))

theorem onehot_apply (I : S8192.Idx → BitVec 32) (n k : Fin 8192) (hk : I (ix1 n) = BitVec.ofNat 32 k.val) (j : Fin 8192) :
    onehot I (ix2 n j) = if j = k then 1 else 0 := by
  unfold onehot
  have hl : broadcastInDim S8192x8192 ![0, 1] bcast_S8192x1_S8192x8192_0_1 (broadcastInDim S8192x1 ![0] bcast_S8192_S8192x1_0 I) (ix2 n j)
      = BitVec.ofNat 32 k.val := by
    refine (broadcastInDim_apply _ _ _ _ (ix2 n (0 : Fin 1)) fun a => ?_).trans
      ((broadcastInDim_apply _ _ _ _ (ix1 n) fun a => ?_).trans hk)
    · match a with
      | ⟨0, _⟩ => rfl
      | ⟨1, _⟩ => rfl
    · match a with
      | ⟨0, _⟩ => rfl
  have hr : broadcastInDim S8192x8192 ![0, 1] bcast_S1x8192_S8192x8192_0_1 (iotaInDim S1x8192 32 1) (ix2 n j) = BitVec.ofNat 32 j.val := by
    refine (broadcastInDim_apply _ _ _ _ (ix2 (0 : Fin 1) j) fun a => ?_).trans ?_
    · match a with
      | ⟨0, _⟩ => rfl
      | ⟨1, _⟩ => rfl
    · rw [iotaInDim_apply]
  have hc : ∀ (x y : BitVec 32), (((IntOp.cmpi .eq x y).toNat : ℝ) : EReal) = if x = y then 1 else 0 := fun x y => by
    by_cases h : x = y
    · subst h; simp [IntOp.cmpi]
    · simp [IntOp.cmpi, h]
  refine Eq.trans (show _ = (((IntOp.cmpi .eq _ _).toNat : ℝ) : EReal) from rfl) ?_
  rw [hl, hr, hc]
  by_cases h : j = k
  · subst h; rw [if_pos rfl, if_pos rfl]
  · rw [if_neg h, if_neg fun e => h (ofNat_fin_inj.1 e).symm]

/-- A one-hot row picks one row of a matrix. -/
theorem onehot_dot (O : S8192x8192.Idx → EReal) (B : S8192x32.Idx → EReal) (n k : Fin 8192)
    (hO : ∀ j, O (ix2 n j) = if j = k then 1 else 0) (c : Fin 32) :
    Host.dotGeneral (F := Ideal) (φ₁ := .f32) (φ₂ := .f32) dot_S8192x8192_S8192x32_S8192x32_1_0_0_1_n_n none O B (ix2 n c) = B (ix2 k c) := by
  refine (StackMember.dotGeneral_plain_apply (m := 8192) (k := 8192) (n := 32) (φ₁ := .f32) (φ₂ := .f32) none O B n c).trans ?_
  rw [Finset.sum_eq_single k, hO, if_pos rfl, one_mul]
  · intro j _ h
    rw [hO, if_neg h, zero_mul]
  · exact fun h => absurd (Finset.mem_univ k) h

theorem idx_apply (Z : S8x32x32x32.Idx → EReal) (B : S8192x32.Idx → EReal) (n : Fin 8192) :
    amin (dists Z B) (ix1 n) = BitVec.ofNat 32 (firstMin (dist Z B n)).val := by
  rw [amin_apply]
  exact congrArg (fun f => BitVec.ofNat 32 (firstMin f).val) (funext fun j => dists_apply Z B n j)

theorem hot_apply (Z : S8x32x32x32.Idx → EReal) (B : S8192x32.Idx → EReal) (n j : Fin 8192) :
    onehot (amin (dists Z B)) (ix2 n j) = if j = firstMin (dist Z B n) then 1 else 0 :=
  onehot_apply _ n _ (idx_apply Z B n) j

end Cert.Proof.VQ.R
-- ==== Proof.RefOut.lean ====
/-
  The reference's five results at the ideal floats, index by index, from its two
  arguments.
-/
module

public import proofs.«01_k».proof.Proof.RefIdx
public import Idealize.ShloMosaic.Lib.StackMember

@[expose] public section

noncomputable section

namespace Cert.Proof.VQ.R

open Cert.ReferenceIdeal Cert.ReferenceIdeal.Gen
open Idealize.ShloMosaic hiding ix1 ix2 ix3 ix4 eq_ix1 eq_ix2 eq_ix3 eq_ix4
open Idealize.ShloMosaic.ValueIdx Idealize.ShloMosaic.TcCoe

variable (m : (ℓ : Loc nD τ sig) → Buf (Elt Ideal) ℓ) (d : Dev nD)

theorem opsB_idx (V : Valuation τ sig (Elt Ideal)) (D : S8192x8192.Idx → EReal) (h : V (main_v15 : DevRef τ sig) = D) :
    StableHlo.after opsB V (main_v16 : DevRef τ sig) = (amin D : S8192.Idx → BitVec 32) := by
  subst h; unfold opsB; after_results_simp; rfl
theorem opsB_hot (V : Valuation τ sig (Elt Ideal)) (D : S8192x8192.Idx → EReal) (h : V (main_v15 : DevRef τ sig) = D) :
    StableHlo.after opsB V (main_v17 : DevRef τ sig) = (onehot (amin D) : S8192x8192.Idx → EReal) := by
  subst h; unfold opsB; after_results_simp; simp only [StableHlo.TRef.ofBuf_toBuf]; rfl

theorem U2_idx : U2 m d (main_v16 : DevRef τ sig) = (amin (dists (rZ m d) (rB m d)) : S8192.Idx → BitVec 32) := by
  exact opsB_idx _ _ (U1_dist m d)
theorem U2_hot : U2 m d (main_v17 : DevRef τ sig) = (onehot (amin (dists (rZ m d) (rB m d))) : S8192x8192.Idx → EReal) := by
  exact opsB_hot _ _ (U1_dist m d)
theorem U2_dist : U2 m d (main_v15 : DevRef τ sig) = (dists (rZ m d) (rB m d) : S8192x8192.Idx → EReal) := by
  unfold U2 opsB; after_results_simp; exact U1_dist m d
theorem U2_perm : U2 m d (main_v0 : DevRef τ sig) = (perm (rZ m d) : S8x32x32x32.Idx → EReal) := by
  unfold U2 opsB; after_results_simp; exact U1_perm m d
theorem U2_arg1 : U2 m d (main_arg1 : DevRef τ sig) = rB m d := by unfold U2 opsB; after_results_simp; exact U1_arg1 m d

/-! ## The quantized images, the loss and the perplexity -/

section Terms

variable (Z : S8x32x32x32.Idx → EReal) (B : S8192x32.Idx → EReal)

/-- The quantized images with the channel last. -/
def zq : S8x32x32x32.Idx → EReal :=
  shapeCast S8x32x32x32 (Host.dotGeneral (F := Ideal) (φ₁ := .f32) (φ₂ := .f32) dot_S8192x8192_S8192x32_S8192x32_1_0_0_1_n_n none
    (onehot (amin (dists Z B))) B) shapeCasts_S8192x32_S8x32x32x32

theorem zq_apply (b : Fin 8) (h w c : Fin 32) : zq Z B (ix4 b h w c) = B (ix2 (firstMin (dist Z B (rowAt b h w))) c) := by
  unfold zq
  refine (shapeCast_apply _ _ _ (ix2 (rowAt b h w) c) ?_).trans (onehot_dot _ B _ _ (hot_apply Z B _) c)
  rw [Shape.rowMajor_val_two, Shape.rowMajor_val_four]
  show (b.val * 1024 + h.val * 32 + w.val) * 32 + c.val = ((b.val * 32 + h.val) * 32 + w.val) * 32 + c.val
  omega

/-- The quantized images, straight through. -/
def out : S8x32x32x32.Idx → EReal :=
  transpose S8x32x32x32 [0, 3, 1, 2] (addf (F := Ideal) (φ := .f32) (perm Z) (subf (F := Ideal) (φ := .f32) (zq Z B) (perm Z)))
    transposes_S8x32x32x32_S8x32x32x32_0_3_1_2

theorem out_apply (b : Fin 8) (c h w : Fin 32) : out Z B (ix4 b c h w)
    = Z (ix4 b c h w) + (B (ix2 (firstMin (dist Z B (rowAt b h w))) c) - Z (ix4 b c h w)) := by
  unfold out
  refine (transpose_apply _ _ _ _ (ix4 b h w c) fun x => ?_).trans ?_
  · match x with
    | ⟨0, _⟩ => rfl
    | ⟨1, _⟩ => rfl
    | ⟨2, _⟩ => rfl
    | ⟨3, _⟩ => rfl
  rw [addf_apply, subf_apply, perm_apply, zq_apply]

/-- The mean squared difference. -/
def mse : S_.Idx → EReal :=
  Host.divf (F := Ideal) (φ := .f32)
    (Host.reduceAdd (F := Ideal) (φ := .f32) (mulf (F := Ideal) (φ := .f32) (subf (F := Ideal) (φ := .f32) (zq Z B) (perm Z)) (subf (F := Ideal) (φ := .f32) (zq Z B) (perm Z)))
      zero reducesTo_S8x32x32x32_S_d0_1_2_3 h_S_)
    (constant (F := Ideal) S_ .f32 0x48800000#32)

theorem mse_apply (i : S_.Idx) : mse Z B i = Ideal.div (Ideal.ofBits .f32 0x00000000#32
      + ∑ i : S8x32x32x32.Idx, (zq Z B i - perm Z i) * (zq Z B i - perm Z i)) (Ideal.ofBits .f32 0x48800000#32) := by
  unfold mse
  rw [hostDivf_apply, hostReduceAdd_apply, Ideal.hostReduceAdd_total _ (fun b => b.elim0)]
  rfl

/-- The loss. -/
def loss : S_.Idx → EReal :=
  addf (F := Ideal) (φ := .f32) (mse Z B) (mulf (F := Ideal) (φ := .f32) (constant (F := Ideal) S_ .f32 0x3E800000#32) (mse Z B))

/-- How often each codebook row is used, over the number of rows. -/
def freq (O : S8192x8192.Idx → EReal) : S8192.Idx → EReal :=
  Host.divf (F := Ideal) (φ := .f32) (Host.reduceAdd (F := Ideal) (φ := .f32) O zero reducesTo_S8192x8192_S8192_d0 h_S_)
    (broadcastInDim S8192 ![] bcast_S_S8192 (constant (F := Ideal) S_ .f32 0x46000000#32))

theorem hostExp_apply {s : Shape} (x : s.Idx → EReal) (i : s.Idx) : Host.exp (F := Ideal) (φ := .f32) x i = Ideal.exp (x i) := rfl
theorem hostNegf_apply {s : Shape} (x : s.Idx → EReal) (i : s.Idx) : Host.negf (F := Ideal) (φ := .f32) x i = -x i := rfl
theorem hostLog_apply {s : Shape} (x : s.Idx → EReal) (i : s.Idx) : Host.log (F := Ideal) (φ := .f32) x i = Ideal.log (x i) := rfl

/-- The perplexity. -/
def perp (O : S8192x8192.Idx → EReal) : S_.Idx → EReal :=
  Host.exp (F := Ideal) (φ := .f32) (Host.negf (F := Ideal) (φ := .f32) (Host.reduceAdd (F := Ideal) (φ := .f32)
    (mulf (F := Ideal) (φ := .f32) (freq O) (Host.log (F := Ideal) (φ := .f32) (addf (F := Ideal) (φ := .f32) (freq O)
      (broadcastInDim S8192 ![] bcast_S_S8192 (constant (F := Ideal) S_ .f32 0x2EDBE6FF#32)))))
    zero reducesTo_S8192_S_d0 h_S_))

theorem freq_apply (j : Fin 8192) : freq (onehot (amin (dists Z B))) (ix1 j) = Ideal.div (hits Z B j) (Ideal.ofBits .f32 0x46000000#32) := by
  unfold freq hits
  rw [hostDivf_apply, hostReduceAdd_apply, Ideal.hostReduceAdd_single _ red0sq]
  refine congrArg₂ Ideal.div ?_ rfl
  refine (congrArg₂ (· + ·) Ideal.ofBits_zero_f32 (Finset.sum_congr rfl fun (n : Fin 8192) _ => ?_)).trans (zero_add _)
  rw [show red0sq.lift (ix1 j) n = ix2 n j from lift_col _ _ _, hot_apply]

theorem perp_apply (i : S_.Idx) : perp (onehot (amin (dists Z B))) i = perpOf (hits Z B) := by
  unfold perp perpOf
  rw [hostExp_apply, hostNegf_apply, hostReduceAdd_apply, Ideal.hostReduceAdd_total _ (fun b => b.elim0)]
  refine congrArg Ideal.exp ?_
  rw [zero_sub]
  refine congrArg Neg.neg ?_
  refine (congrArg₂ (· + ·) Ideal.ofBits_zero_f32 ?_).trans (zero_add _)
  refine (Equiv.sum_comp idxEquiv1.symm _).symm.trans ?_
  refine Finset.sum_congr rfl fun (j : Fin 8192) _ => ?_
  refine Eq.trans (congrArg _ (show idxEquiv1.symm j = ix1 j from rfl)) ?_
  rw [mulf_apply, hostLog_apply, addf_apply, freq_apply]
  rfl

end Terms

theorem U3_out : U3 m d (main_v32 : DevRef τ sig) = (out (rZ m d) (rB m d) : S8x32x32x32.Idx → EReal) := by
  unfold U3 opsC; after_results_simp; rw [U2_hot, U2_perm, U2_arg1]; rfl
theorem U3_loss : U3 m d (main_v29 : DevRef τ sig) = (loss (rZ m d) (rB m d) : S_.Idx → EReal) := by
  unfold U3 opsC; after_results_simp; rw [U2_hot, U2_perm, U2_arg1]; rfl
theorem U3_hot : U3 m d (main_v17 : DevRef τ sig) = (onehot (amin (dists (rZ m d) (rB m d))) : S8192x8192.Idx → EReal) := by
  unfold U3 opsC; after_results_simp; exact U2_hot m d
theorem U3_idx : U3 m d (main_v16 : DevRef τ sig) = (amin (dists (rZ m d) (rB m d)) : S8192.Idx → BitVec 32) := by
  unfold U3 opsC; after_results_simp; exact U2_idx m d
theorem U3_dist : U3 m d (main_v15 : DevRef τ sig) = (dists (rZ m d) (rB m d) : S8192x8192.Idx → EReal) := by
  unfold U3 opsC; after_results_simp; exact U2_dist m d

/-! ## The five results -/

theorem U4_out : U4 m d (main_v32 : DevRef τ sig) = (out (rZ m d) (rB m d) : S8x32x32x32.Idx → EReal) := by
  unfold U4 opsD; after_results_simp; exact U3_out m d
theorem U4_loss : U4 m d (main_v29 : DevRef τ sig) = (loss (rZ m d) (rB m d) : S_.Idx → EReal) := by
  unfold U4 opsD; after_results_simp; exact U3_loss m d
theorem U4_perp : U4 m d (main_v42 : DevRef τ sig) = (perp (onehot (amin (dists (rZ m d) (rB m d)))) : S_.Idx → EReal) := by
  unfold U4 opsD; after_results_simp; rw [U3_hot]; rfl
theorem U4_idx : U4 m d (main_v16 : DevRef τ sig) = (amin (dists (rZ m d) (rB m d)) : S8192.Idx → BitVec 32) := by
  unfold U4 opsD; after_results_simp; exact U3_idx m d
theorem U4_dist : U4 m d (main_v15 : DevRef τ sig) = (dists (rZ m d) (rB m d) : S8192x8192.Idx → EReal) := by
  unfold U4 opsD; after_results_simp; exact U3_dist m d

end Cert.Proof.VQ.R
-- ==== Proof.Finite.lean ====
/-
  What finite arguments give: every element is a real, the straight-through output is the codebook row itself, and the
  squared differences of the quantized images to the images sum to the least distances, so that the two losses agree.
-/
module

public import proofs.«01_k».proof.Pre_finite
public import proofs.«01_k».proof.Proof.RefOut
public import Idealize.ShloMosaic.Lib.ReduceAll

@[expose] public section

noncomputable section

namespace Cert.Proof.VQ

open Idealize.ShloMosaic hiding ix0 ix1 ix2 ix3 ix4 eq_ix1 eq_ix2 eq_ix3 eq_ix4
open Idealize.ShloMosaic.ValueIdx Idealize.ShloMosaic.TcCoe
open Cert.ReferenceIdeal (S8x32x32x32 S8192x32 S_)

/-! ## The precondition -/

/-- Its side conditions. -/
theorem finite_facts : Cert.Pre_finite.Facts where
  bcast_S_S8x32x32x32 := by decide
  reducesTo_S8x32x32x32_S_d0_1_2_3 := by decide
  h_S_ := by decide
  bcast_S_S8192x32 := by decide
  reducesTo_S8192x32_S_d0_1 := by decide

/-- A comparison below infinity that holds is of a real. -/
theorem real_of_lt (x : EReal) (h : Ideal.cmp .olt (max x (-x)) (Ideal.ofBits .f32 0x7F800000#32) = 1#1) : ∃ r : ℝ, x = (r : EReal) := by
  rw [ofBits_inf_f32] at h
  have hl : max x (-x) < ⊤ := by
    by_contra hc
    simp [Ideal.cmp, hc] at h
  have h1 : x ≠ ⊤ := fun e => by rw [e] at hl; simp at hl
  have h2 : x ≠ ⊥ := fun e => by rw [e] at hl; simp at hl
  exact ⟨x.toReal, (EReal.coe_toReal h1 h2).symm⟩

theorem andi_one {x y : BitVec 1} (h : IntOp.andi x y = 1#1) : x = 1#1 ∧ y = 1#1 := by
  revert h; revert x y; decide

variable (Z : S8x32x32x32.Idx → EReal) (B : S8192x32.Idx → EReal)

/-- Finite arrays are arrays of reals. -/
theorem reals [Cert.Pre_finite.Facts] (h : Cert.Pre_finite.fn (F := Ideal) Z B = fun _ => 1#1) :
    (∃ z : S8x32x32x32.Idx → ℝ, Z = fun i => (z i : EReal)) ∧ ∃ w : S8192x32.Idx → ℝ, B = fun i => (w i : EReal) := by
  haveI : Subsingleton S_.Idx := ⟨fun a b => funext fun x => x.elim0⟩
  have h0 := congrFun h ValueIdx.ix0
  unfold Cert.Pre_finite.fn at h0
  obtain ⟨hz, hw⟩ := andi_one h0
  have ez := fun i => real_of_lt (Z i) (Host.reduce_andi_all _ _ _ _ _ hz i)
  have ew := fun i => real_of_lt (B i) (Host.reduce_andi_all _ _ _ _ _ hw i)
  exact ⟨⟨fun i => (ez i).choose, funext fun i => (ez i).choose_spec⟩, ⟨fun i => (ew i).choose, funext fun i => (ew i).choose_spec⟩⟩

/-! ## Over the reals -/

theorem add_sub_real (x y : ℝ) : (x : EReal) + ((y : EReal) - (x : EReal)) = (y : EReal) := by
  rw [← EReal.coe_sub, ← EReal.coe_add, add_sub_cancel]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem lit_two : Ideal.ofBits .f32 0x40000000#32 = ((2 : ℝ) : EReal) := by
  simp [Ideal.ofBits, Ideal.ieee, -EReal.coe_mul]; norm_num
theorem lit_quarter : Ideal.ofBits .f32 0x3E800000#32 = ((1 / 4 : ℝ) : EReal) := by
  simp [Ideal.ofBits, Ideal.ieee, -EReal.coe_mul]; norm_num
theorem lit_five_quarters : Ideal.ofBits .f32 0x3FA00000#32 = ((5 / 4 : ℝ) : EReal) := by
  simp [Ideal.ofBits, Ideal.ieee, -EReal.coe_mul]; norm_num
theorem lit_count : Ideal.ofBits .f32 0x48800000#32 = ((262144 : ℝ) : EReal) := by
  simp [Ideal.ofBits, Ideal.ieee, -EReal.coe_mul]; norm_num

variable (z : S8x32x32x32.Idx → ℝ) (w : S8192x32.Idx → ℝ)

/-- The distance of a row to a codebook row, over the reals, is the sum of their squared differences. -/
theorem dist_real (n j : Fin 8192) : dist (fun i => (z i : EReal)) (fun i => (w i : EReal)) n j
    = ((∑ c : Fin 32, (w (ix2 j c) - z (ix4 (rb n) c (rh n) (rw' n))) * (w (ix2 j c) - z (ix4 (rb n) c (rh n) (rw' n))) : ℝ) : EReal) := by
  unfold dist zrow
  rw [lit_two, Ideal.ofBits_zero_f32, zero_add, zero_add]
  simp only [← EReal.coe_mul, ← coe_sum, ← EReal.coe_add, ← EReal.coe_sub]
  refine congrArg _ ?_
  rw [Finset.mul_sum, ← Finset.sum_add_distrib, ← Finset.sum_sub_distrib]
  exact Finset.sum_congr rfl fun c _ => by ring

theorem rowAt_split (n : Fin 8192) : rowAt (rb n) (rh n) (rw' n) = n := Fin.ext (by
  show n.val / 1024 * 1024 + n.val % 1024 / 32 * 32 + n.val % 32 = n.val
  omega)

/-- A sum over the images is one over the rows and the channels. -/
theorem sum_images (f : S8x32x32x32.Idx → EReal) : ∑ i : S8x32x32x32.Idx, f i = ∑ n : Fin 8192, ∑ c : Fin 32, f (ix4 (rb n) (rh n) (rw' n) c) := by
  rw [← sum_shapeCast f Cert.ReferenceIdeal.Gen.shapeCasts_S8x32x32x32_S8192x32, ValueIdx.sum_idx2]
  refine Finset.sum_congr rfl fun n _ => Finset.sum_congr rfl fun c _ => shapeCast_apply _ _ _ _ ?_
  rw [Shape.rowMajor_val_two, Shape.rowMajor_val_four]
  show ((n.val / 1024 * 32 + n.val % 1024 / 32) * 32 + n.val % 32) * 32 + c.val = n.val * 32 + c.val
  omega

/-- The sum of the least distances. -/
def leastSum : ℝ := ∑ n : Fin 8192, ∑ c : Fin 32,
  (w (ix2 (firstMin (dist (fun i => (z i : EReal)) (fun i => (w i : EReal)) n)) c) - z (ix4 (rb n) c (rh n) (rw' n)))
    * (w (ix2 (firstMin (dist (fun i => (z i : EReal)) (fun i => (w i : EReal)) n)) c) - z (ix4 (rb n) c (rh n) (rw' n)))

theorem sum_least : ∑ n : Fin 8192, dist (fun i => (z i : EReal)) (fun i => (w i : EReal)) n
      (firstMin (dist (fun i => (z i : EReal)) (fun i => (w i : EReal)) n)) = ((leastSum z w : ℝ) : EReal) := by
  unfold leastSum
  rw [coe_sum]
  exact Finset.sum_congr rfl fun n _ => dist_real z w n _

theorem sum_squares : ∑ i : S8x32x32x32.Idx,
      (R.zq (fun i => (z i : EReal)) (fun i => (w i : EReal)) i - R.perm (fun i => (z i : EReal)) i)
        * (R.zq (fun i => (z i : EReal)) (fun i => (w i : EReal)) i - R.perm (fun i => (z i : EReal)) i)
    = ((leastSum z w : ℝ) : EReal) := by
  rw [sum_images]
  unfold leastSum
  rw [coe_sum]
  refine Finset.sum_congr rfl fun n _ => ?_
  rw [coe_sum]
  refine Finset.sum_congr rfl fun c _ => ?_
  rw [R.zq_apply, R.perm_apply, rowAt_split, EReal.coe_mul, EReal.coe_sub]

theorem div_count (x : ℝ) : Ideal.div (x : EReal) ((262144 : ℝ) : EReal) = ((x / 262144 : ℝ) : EReal) := by
  rw [Ideal.div_coe (by norm_num), ← EReal.coe_mul]
  refine congrArg _ ?_
  ring

/-- The reference's loss over the reals. -/
theorem loss_real (i : S_.Idx) : R.loss (fun i => (z i : EReal)) (fun i => (w i : EReal)) i
    = Ideal.div (Ideal.ofBits .f32 0x3FA00000#32 * ∑ n : Fin 8192, dist (fun i => (z i : EReal)) (fun i => (w i : EReal)) n
        (firstMin (dist (fun i => (z i : EReal)) (fun i => (w i : EReal)) n))) (Ideal.ofBits .f32 0x48800000#32) := by
  unfold R.loss
  rw [addf_apply, mulf_apply, constant_apply, R.mse_apply, sum_squares, sum_least, Ideal.ofBits_zero_f32, zero_add, lit_quarter, lit_five_quarters,
    lit_count, ← EReal.coe_mul, div_count, div_count, ← EReal.coe_mul, ← EReal.coe_add]
  refine congrArg _ ?_
  ring

end Cert.Proof.VQ
-- ==== Proof.Algebraic.lean ====
/-
  The kernel and the reference have equal results at the ideal floats, from finite arguments.
-/
module

public import proofs.«01_k».proof.Defs
public import proofs.«01_k».proof.Proof.Frames
public import proofs.«01_k».proof.Proof.Finite

@[expose] public section

noncomputable section

namespace Cert.Proof.VQ

open Idealize.ShloMosaic hiding ix1 ix2 ix3 ix4 eq_ix1 eq_ix2 eq_ix3 eq_ix4
open Idealize.ShloMosaic.ValueIdx Idealize.ShloMosaic.TcCoe Idealize.SL.Sem

section Values

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (hZ : R.rZ m' c = argZ m c) (hB : R.rB m' c = argB m c)

include hZ hB

theorem eq_dist : R.U4 m' c (Cert.ReferenceIdeal.main_v15 : DevRef _ _) = V5 m c (Cert.KernelIdeal.main_v6_0 : DevRef _ _) := by
  rw [R.U4_dist, V5_dist, hZ, hB]
  funext i
  exact (congrArg (R.dists (argZ m c) (argB m c)) (eq_ix2 i)).trans (R.dists_apply _ _ _ _)

theorem eq_idx : R.U4 m' c (Cert.ReferenceIdeal.main_v16 : DevRef _ _) = V5 m c (Cert.KernelIdeal.main_v7 : DevRef _ _) := by
  rw [R.U4_idx, V5_idx, hZ, hB]
  funext i
  exact (congrArg (R.amin (R.dists (argZ m c) (argB m c))) (eq_ix1 i)).trans (R.idx_apply _ _ _)

theorem eq_perp : R.U4 m' c (Cert.ReferenceIdeal.main_v42 : DevRef _ _) = V5 m c (Cert.KernelIdeal.main_v14 : DevRef _ _) := by
  rw [R.U4_perp, V5_perp, hZ, hB]
  funext i
  exact R.perp_apply _ _ i

variable (z : Cert.ReferenceIdeal.S8x32x32x32.Idx → ℝ) (w : Cert.ReferenceIdeal.S8192x32.Idx → ℝ)
  (ez : argZ m c = fun i => (z i : EReal)) (ew : argB m c = fun i => (w i : EReal))

include ez ew

theorem eq_loss : R.U4 m' c (Cert.ReferenceIdeal.main_v29 : DevRef _ _) = V5 m c (Cert.KernelIdeal.main_v13 : DevRef _ _) := by
  rw [R.U4_loss, V5_loss, hZ, hB, ez, ew]
  funext i
  exact loss_real z w i

theorem eq_out : R.U4 m' c (Cert.ReferenceIdeal.main_v32 : DevRef _ _) = V5 m c (Cert.KernelIdeal.main_v12 : DevRef _ _) := by
  rw [R.U4_out]
  refine funext fun (i : Cert.ReferenceIdeal.S8x32x32x32.Idx) => ?_
  obtain ⟨b, k, h, l, rfl⟩ : ∃ b k h l, i = ix4 b k h l := ⟨i 0, i 1, i 2, i 3, eq_ix4 i⟩
  refine (R.out_apply _ _ b k h l).trans (Eq.trans ?_ (V5_zq m c b k h l).symm)
  rw [hZ, hB, ez, ew]
  exact add_sub_real _ _

end Values

theorem algebraic [Cert.Pre_finite.Facts] : Cert.algebraic_KernelIdeal_ReferenceIdeal_pre_finite := fun m g m' g' hpre hargs =>
  ⟨fun c => V5 m c (Cert.KernelIdeal.main_v12 : DevRef _ _), fun c => V5 m c (Cert.KernelIdeal.main_v13 : DevRef _ _),
    fun c => V5 m c (Cert.KernelIdeal.main_v14 : DevRef _ _), fun c => V5 m c (Cert.KernelIdeal.main_v7 : DevRef _ _),
    fun c => V5 m c (Cert.KernelIdeal.main_v6_0 : DevRef _ _),
    (θ_run Cert.KernelIdeal.defs _ _).mono (fun _ h c =>
      ⟨h.1 c (Cert.KernelIdeal.main_v12 : DevRef _ _) (by decide), h.1 c (Cert.KernelIdeal.main_v13 : DevRef _ _) (by decide),
        h.1 c (Cert.KernelIdeal.main_v14 : DevRef _ _) (by decide), h.1 c (Cert.KernelIdeal.main_v7 : DevRef _ _) (by decide),
        h.1 c (Cert.KernelIdeal.main_v6_0 : DevRef _ _) (by decide),
        (h.1 c (Cert.KernelIdeal.main_arg0 : DevRef _ _) (by decide)).trans (V5_arg0 m c),
        (h.1 c (Cert.KernelIdeal.main_arg1 : DevRef _ _) (by decide)).trans (V5_arg1 m c)⟩) (run_kernel m g),
    (θ_run Cert.ReferenceIdeal.defs _ _).mono (fun _ h c => by
      obtain ⟨⟨z, ez⟩, ⟨w, ew⟩⟩ := reals _ _ (hpre c)
      have hZ : R.rZ m' c = argZ m c := (hargs c).1
      have hB : R.rB m' c = argB m c := (hargs c).2
      exact ⟨(h c _).trans (eq_out m m' c hZ hB z w ez ew), (h c _).trans (eq_loss m m' c hZ hB z w ez ew),
        (h c _).trans (eq_perp m m' c hZ hB), (h c _).trans (eq_idx m m' c hZ hB), (h c _).trans (eq_dist m m' c hZ hB),
        (h c _).trans (R.U4_arg0 m' c), (h c _).trans (R.U4_arg1 m' c)⟩) (R.run_main m' g')⟩

end Cert.Proof.VQ
-- ==== Proof.CallTaskIdeal.lean ====
/-
  The SparseCore call alone, from its own arguments (a list of row numbers and a table): the launch theorem's set-up, and
  the task with its values. Task `w = 2 i + c` (subcore `i` of SparseCore `c`) fetches words `256 w … 256 w + 255` of the
  row numbers, gathers those rows of the padded table by the indirect stream, and writes them to rows `256 w …` of the
  output. The same statements as in Base.lean and Gather.lean, for the program of this call, at any float instance.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.GatherIdeal
public import proofs.«01_k».proof.Proof.Gen.GatherIdeal.Skeleton

@[expose] public section

noncomputable section

namespace Cert.Proof.CallIdeal

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The SparseCore handshakes. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The 32 tasks and the 32 shares -/

/-- Task `w`'s share of an array all 32 tasks read: one of 32 pieces of the full share. -/
abbrev shr (w : Fin 32) : PosShare TreeShare := pieceOf (fullShare : PosShare TreeShare) 32 (Nat.succ_pos 31) w

theorem pointsTo_shr {ℓ : Loc nD τ sig} (f : Buf (Elt F) ℓ) :
    (ℓ ↦{fullShare} f : sProp 𝕄) = bigSep Finset.univ fun w : Fin 32 => ℓ ↦{shr w} f :=
  pointsTo_piecesOf Finset.univ f (Nat.succ_pos 31) fullShare

/-- The task of subcore `i` of SparseCore `c`: number `2 i + c`. -/
def taskEquiv : Fin 2 × Fin 16 ≃ Fin 32 := (Equiv.prodComm _ _).trans (finProdFinEquiv (m := 16) (n := 2))

theorem taskEquiv_val (c : Fin 2) (i : Fin 16) : (taskEquiv (c, i)).val = 2 * i.val + c.val := by
  simp [taskEquiv, finProdFinEquiv]; omega

/-- A product over the 32 tasks, by SparseCore and subcore. -/
theorem bigSep_tasks (Φ : Fin 32 → sProp 𝕄) :
    bigSep Finset.univ Φ = bigSep Finset.univ fun c : Fin 2 => bigSep Finset.univ fun i : Fin 16 => Φ (taskEquiv (c, i)) := by
  rw [bigSep_univ_equiv taskEquiv Φ, ← Finset.univ_product_univ]
  exact SparseCore.bigSep_product _ _ _

/-! ## The buffers -/

abbrev iLoc (d : Dev nD) : Loc nD τ sig := (SparseCore.T d).loc main_arg0
abbrev tLoc (d : Dev nD) : Loc nD τ sig := (SparseCore.T d).loc main_v0
abbrev oLoc (d : Dev nD) : Loc nD τ sig := (SparseCore.T d).loc main_v1

local notation "iV" => (Memref.whole Cert.GatherIdeal.main_arg0_scv : Memref Cert.GatherIdeal.sig Kind.scVector Space.hbm Cert.GatherIdeal.S8192 EltTy.i32)
local notation "tV" => (Memref.whole Cert.GatherIdeal.main_v0_scv : Memref Cert.GatherIdeal.sig Kind.scVector Space.hbm Cert.GatherIdeal.S8192x128 EltTy.f32)
local notation "oV" => (Memref.whole Cert.GatherIdeal.main_v1_scv : Memref Cert.GatherIdeal.sig Kind.scVector Space.hbm Cert.GatherIdeal.S8192x128 EltTy.f32)
local notation "sV" => (Memref.whole Cert.GatherIdeal.cc0_scratch0 : Memref Cert.GatherIdeal.sig Kind.scVector Space.vmem Cert.GatherIdeal.S256 EltTy.i32)
local notation "rV" => (Memref.whole Cert.GatherIdeal.cc0_scratch1 : Memref Cert.GatherIdeal.sig Kind.scVector Space.vmem Cert.GatherIdeal.S256x128 EltTy.f32)

/-- One row of the row buffer. -/
theorem rowShape_S (h : S8192x128.Gathers 0 S256x128) : S256x128.rowShape h.axis' = ⟨2, ![1, 128]⟩ := by
  unfold Shape.rowShape
  congr 1
  funext b
  match b with
  | 0 => rfl
  | 1 => rfl
theorem row_credit (h : S8192x128.Gathers 0 S256x128) (j) : ((rV).slice (S256x128.rowRect h.axis' j) (S256x128.stride_rowRect h.axis' j)).view.dmaCredit
   = sig.dmaCredit Kind.scVector (Kind.scVector.table cc0_scratch1.space) (rV).view.buf ⟨2, ![1, 128]⟩ .f32 := by
  exact View.dmaCredit_closed _ ⟨2, ![1, 128]⟩ (rowShape_S h) (rV).view.buf rfl _ rfl
/-- The rows' credits are the whole row buffer's. -/
theorem row_sum (h : S8192x128.Gathers 0 S256x128) : ∑ j, ((rV).slice (S256x128.rowRect h.axis' j) (S256x128.stride_rowRect h.axis' j)).view.dmaCredit
      = (rV).view.dmaCredit := by
  rw [Finset.sum_congr rfl fun j _ => row_credit h j, Finset.sum_const, Finset.card_univ, Fintype.card_fin]
  show 256 • _ = _
  decide +kernel
theorem rows_numel_pos : 0 < S256x128.numel := Shape.numel_pos fun a => by match a with | 0 => decide | 1 => decide

theorem odiv : 32 ∣ S8192x128.size 0 := ⟨256, rfl⟩
/-- Rows `256 w …` of the output. -/
abbrev orow (w : Fin 32) : Rect S8192x128 := Rect.part (s := S8192x128) (a₀ := 0) odiv w
abbrev oRowSet (w : Fin 32) : Finset S8192x128.Idx := ((oV).view.slice (orow w)).set

/-! ## What the call reads and leaves -/

-- the row numbers, the table and the output as the call finds them on each device
variable (I : Dev nD → S8192.Idx → BitVec 32) (Tb : Dev nD → S8192x128.Idx → F .f32) (O₀ : Dev nD → S8192x128.Idx → F .f32)

/-- Index `(r, c)` of the table. -/
def tIx (r : Fin 8192) (c : Fin 128) : S8192x128.Idx := fun | 0 => r | 1 => c | ⟨_ + 2, h⟩ => absurd h (Nat.not_lt.2 (Nat.le_add_left _ _))
/-- Index `r` of the list of row numbers. -/
def iIx (r : Fin 8192) : S8192.Idx := fun | 0 => r | ⟨_ + 1, h⟩ => absurd h (Nat.not_lt.2 (Nat.le_add_left _ _))

/-- Every row number names a row of the table. -/
def InRows : Prop := ∀ (d : Dev nD) (j : S8192.Idx), (I d j).toNat < 8192

/-- The gathered rows: row `j` is the table's row `I j`. -/
def gathered (d : Dev nD) : S8192x128.Idx → F .f32 := fun j => Tb d (tIx (Fin.ofNat 8192 (I d (iIx (j 0))).toNat) (j 1))

abbrev iShPts (d : Dev nD) (w : Fin 32) : sProp 𝕄 := iLoc d ↦{shr w} (I d : Buf (Elt F) (iLoc d))
abbrev tShPts (d : Dev nD) (w : Fin 32) : sProp 𝕄 := tLoc d ↦{shr w} (Tb d : Buf (Elt F) (tLoc d))
abbrev oRowPts (d : Dev nD) (w : Fin 32) (f : Buf (Elt F) (oLoc d)) : sProp 𝕄 := oLoc d ↦[oRowSet w]{fullShare} f

/-- What task `w` takes and brings back. -/
abbrev taskIn (d : Dev nD) (w : Fin 32) : sProp 𝕄 := iprop(iShPts I d w ∗ tShPts Tb d w ∗ oRowPts d w (O₀ d : Buf (Elt F) (oLoc d)))
abbrev taskOut (d : Dev nD) (w : Fin 32) : sProp 𝕄 := iprop(iShPts I d w ∗ tShPts Tb d w ∗ oRowPts d w (gathered I Tb d : Buf (Elt F) (oLoc d)))

/-- The number of the task on subcore `i` of SparseCore `c`. -/
abbrev tw (c : Fin ((K (F := F)).nCore 0)) (i : Fin ((K (F := F)).nSub 0)) : Fin 32 :=
  taskEquiv (Fin.cast nCore_zero c, Fin.cast nSub_zero i)

variable [FloatOps F]

/-- A SparseCore takes its sixteen tasks' parts and brings them back. -/
def P : (K (F := F)).Pay (nD := nD) (Val := Elt F) (Name := ℕ) (U := UU) where
  st := fun q d c => match q with | 0 => bigSep Finset.univ fun i => taskIn I Tb O₀ d (tw c i)
  dn := fun q d c => match q with | 0 => bigSep Finset.univ fun i => taskOut I Tb d (tw c i)
  go := fun q d c i => match q with | 0 => taskIn I Tb O₀ d (tw c i)
  td := fun q d c i => match q with | 0 => taskOut I Tb d (tw c i)
  x := fun _ _ => iprop(emp)

instance P_storable : (P (F := F) I Tb O₀).IsStorable where
  st q d c := match q with
    | 0 => (inferInstance : BI.Storable (upEmb : UEmb _ 𝕄) (bigSep Finset.univ fun i => taskIn I Tb O₀ d (tw c i)))
  dn q d c := match q with
    | 0 => (inferInstance : BI.Storable (upEmb : UEmb _ 𝕄) (bigSep Finset.univ fun i => taskOut I Tb d (tw c i)))
  go q d c i := match q with
    | 0 => (inferInstance : BI.Storable (upEmb : UEmb _ 𝕄) (taskIn I Tb O₀ d (tw c i)))
  td q d c i := match q with
    | 0 => (inferInstance : BI.Storable (upEmb : UEmb _ 𝕄) (taskOut I Tb d (tw c i)))

/-! ## The task -/

section Tile

variable (d : Dev nD) (L : grid0.Coords)

abbrev cV (L : grid0.Coords) : Fin τ.nSC := (L 0).castLE hcore0
abbrev jV (L : grid0.Coords) : Fin τ.nSub := (L 1).castLE hsub0
/-- The task's number. -/
abbrev wL (L : grid0.Coords) : Fin 32 := taskEquiv (Fin.cast (show grid0.bound 0 = 2 from rfl) (L 0), Fin.cast (show grid0.bound 1 = 16 from rfl) (L 1))

omit [FloatOps F] in
theorem wL_val : (wL L).val = 2 * (L 1).val + (L 0).val := taskEquiv_val _ _

abbrev irowK (L : grid0.Coords) : Rect S8192 := Rect.unit (s := S8192) (k0_off1 L) S256.size (k0_off1_inb L)
abbrev orowK (L : grid0.Coords) : Rect S8192x128 := Rect.unit (s := S8192x128) (k0_off2 L) S256x128.size (k0_off2_inb L)
abbrev iRowK (L : grid0.Coords) : Memref sig .scVector .hbm S256 .i32 := (iV).slice (irowK L) (fun _ => rfl)
abbrev oRowK (L : grid0.Coords) : Memref sig .scVector .hbm S256x128 .f32 := (oV).slice (orowK L) (fun _ => rfl)
abbrev tAllK : Memref sig .scVector .hbm S8192x128 .f32 := (tV).slice (Rect.unit (s := S8192x128) ![0, 0] S8192x128.size inb_S8192x128_S8192x128_0_0) (fun _ => rfl)

omit [FloatOps F] in
theorem orowK_eq : orowK L = orow (wL L) := by
  unfold orowK orow Rect.part Rect.block
  have h := wL_val L
  congr 1 <;> funext a
  · rw [k0_off2_eq]
    match a with
    | 0 => simp [Shape.partIx, Shape.partSize]; omega
    | 1 => simp [Shape.partIx, Shape.partSize]
  · match a with
    | 0 => simp [Shape.partSize]
    | 1 => simp [Shape.partSize]

omit [FloatOps F] in
theorem set_oRowK : (oRowK L).view.set = oRowSet (wL L) := by
  show ((oV).view.slice (orowK L)).set = ((oV).view.slice (orow (wL L))).set
  exact orowK_eq L ▸ rfl

omit [FloatOps F] in
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
omit [FloatOps F] in
theorem pts_iV (q : PosShare TreeShare) (f : Buf (Elt F) (iLoc d)) :
    ((iV).view.loc (V d (cV L) (jV L)) ↦{q} f : sProp 𝕄) = iLoc d ↦{q} f := rfl
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

omit [FloatOps F] in
theorem set_rV (f : Buf (Elt F) ((V d (cV L) (jV L)).loc cc0_scratch1)) :
    ((rV).view.loc (V d (cV L) (jV L)) ↦{fullShare} f : sProp 𝕄) = (rV).view.loc (V d (cV L) (jV L)) ↦[(rV).view.set]{fullShare} f := by
  rw [show (rV).view.set = Finset.univ from View.set_whole _]
omit [FloatOps F] in
theorem set_sV (f : Buf (Elt F) ((V d (cV L) (jV L)).loc cc0_scratch0)) :
    ((sV).view.loc (V d (cV L) (jV L)) ↦{fullShare} f : sProp 𝕄) = (sV).view.loc (V d (cV L) (jV L)) ↦[(sV).view.set]{fullShare} f := by
  rw [show (sV).view.set = Finset.univ from View.set_whole _]
omit [FloatOps F] in
theorem split_tV (q : PosShare TreeShare) (f : Buf (Elt F) ((tV).view.loc (V d (cV L) (jV L)))) :
    ((tV).view.loc (V d (cV L) (jV L)) ↦{q} f : sProp 𝕄)
      = iprop(((tV).view.loc (V d (cV L) (jV L)) ↦[tAllK.view.set]{q} f) ∗ (tV).view.loc (V d (cV L) (jV L)) ↦[Finset.univ \ tAllK.view.set]{q} f) :=
  BI.Entails.antisymm (pointsTo_split_subset (Finset.subset_univ _)).1 (pointsTo_split_subset (Finset.subset_univ _)).2

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- What the fetch lands in the list: word `x` is the row number at place `x` of the task's run. -/
theorem list_eq (fs : Buf (Elt F) ((V d (cV L) (jV L)).loc cc0_scratch0)) (x : S256.Idx) :
    (sV).view.read (Elt F) (View.write (Elt F) (sV).view fs ((iRowK L).view.read (Elt F) (I d)) Finset.univ) x = I d ((irowK L).emb x) := by
  rw [View.write_whole_univ]
  simp only [Memref.view_whole, View.read_whole]
  exact (View.read_apply _ _).trans (cast_eq _ _)

omit [FloatOps F] in
/-- The offsets the stream reads are in range. -/
theorem list_inb (hI : InRows I) (fs : Buf (Elt F) ((V d (cV L) (jV L)).loc cc0_scratch0)) (pay : S256.Idx → Elt F .i32)
    (hpay : pay = (iRowK L).view.read (Elt F) (I d)) :
    ∀ x, ((sV).view.read (Elt F) (View.write (Elt F) (sV).view fs pay Finset.univ) x).toNat < S8192x128.size gathers_S8192x128_S256x128.axis := by
  subst hpay; intro x
  rw [list_eq I d L fs x]
  exact hI d _

omit [FloatOps F] in
/-- The stream's payload: place `y` of the row buffer is the table at row `I (256 w + y 0)`, column `y 1`. -/
theorem payload_eq (hI : InRows I) (fs : Buf (Elt F) ((V d (cV L) (jV L)).loc cc0_scratch0)) (pay : S256.Idx → Elt F .i32)
    (hpay : pay = (iRowK L).view.read (Elt F) (I d)) (hn : S256.numel = 256) (y : S256x128.Idx) :
    SparseCore.gatherPayload gathers_S8192x128_S256x128 (tAllK.view.read (Elt F) (Tb d))
        (SparseCore.rows ((sV).view.read (Elt F) (View.write (Elt F) (sV).view fs pay Finset.univ)) hn (list_inb I d L hI fs pay hpay)) y
      = gathered I Tb d ((orowK L).emb y) := by
  subst hpay
  unfold SparseCore.gatherPayload gathered
  have hread : ∀ j, tAllK.view.read (Elt F) (Tb d) j = Tb d j := fun j =>
    ((View.read_apply _ _).trans (cast_eq _ _)).trans (congrArg (Tb d) (by
      funext a
      match a with
      | 0 => exact Fin.ext (show 0 + 1 * (j 0).val = (j 0).val by omega)
      | 1 => exact Fin.ext (show 0 + 1 * (j 1).val = (j 1).val by omega)))
  rw [hread]
  congr 1
  have hrow : ∀ k : Fin 256, (S256.rowMajor.symm (k.cast hn.symm) 0).val = k.val := fun k => by
    have e := Shape.rowMajor_val_one (d := ![256]) (S256.rowMajor.symm (k.cast hn.symm))
    rw [← e, Equiv.apply_symm_apply]; rfl
  have hlist : ∀ k : Fin 256, (irowK L).emb (S256.rowMajor.symm (k.cast hn.symm)) = iIx ((orowK L).emb y 0) ↔ k.val = (y 0).val := fun k => by
    have hk := hrow k
    have e1 : ((irowK L).emb (S256.rowMajor.symm (k.cast hn.symm)) 0).val = k0_off1 L 0 + 1 * (S256.rowMajor.symm (k.cast hn.symm) 0).val := rfl
    have e2 : ((orowK L).emb y 0).val = k0_off2 L 0 + 1 * (y 0).val := rfl
    rw [k0_off1_eq] at e1; rw [k0_off2_eq] at e2
    constructor
    · intro h
      have h0 : ((irowK L).emb (S256.rowMajor.symm (k.cast hn.symm)) 0).val = ((orowK L).emb y 0).val := congrArg (fun z : S8192.Idx => (z 0).val) h
      rw [e1, e2, hk] at h0; simp at h0; exact h0
    · intro h
      funext a
      match a with
      | 0 => apply Fin.ext; show ((irowK L).emb _ 0).val = ((orowK L).emb y 0).val; rw [e1, e2, hk, h]; rfl
  funext b
  match b with
  | 0 =>
    refine (Shape.Gathers.idx_axis gathers_S8192x128_S256x128 _ y).trans ?_
    apply Fin.ext
    show (((sV).view.read (Elt F) _ _)).toNat = ((I d (iIx ((orowK L).emb y 0))).toNat) % 8192
    rw [list_eq]
    exact (congrArg (fun z => (I d z).toNat) ((hlist (y 0)).mpr rfl)).trans (Nat.mod_eq_of_lt (hI d _)).symm
  | 1 =>
    apply Fin.ext
    refine (Shape.Gathers.idx_of_ne gathers_S8192x128_S256x128 _ y 1 (by decide)).trans ?_
    show (y 1).val = k0_off2 L 1 + 1 * (y 1).val
    rw [k0_off2_eq]; simp

omit [FloatOps F] in
/-- What the write-out leaves on the task's rows. -/
theorem rows_eq (fo : Buf (Elt F) (oLoc d)) (pay : S256x128.Idx → Elt F .f32)
    (hpay : ∀ y, pay y = gathered I Tb d ((orowK L).emb y)) :
    ((oRowK L).view.loc (V d (cV L) (jV L)) ↦[(oRowK L).view.set]{fullShare} (oRowK L).view.writes (Elt F) fo [⟨Rect.whole S256x128, pay⟩] : sProp 𝕄)
      = oLoc d ↦[oRowSet (wL L)]{fullShare} (gathered I Tb d : Buf (Elt F) (oLoc d)) := by
  rw [← pts_oRowK]
  refine pointsTo_congr fun x hx => ?_
  obtain ⟨y, -, rfl⟩ := Finset.mem_map.mp hx
  have h := congrFun (View.read_writes_whole (Val := Elt F) (oRowK L).view fo pay) y
  rw [View.read_apply, cast_eq, hpay] at h
  exact h

set_option maxHeartbeats 4000000 in
/-- The task on vector subcore `(L 0, L 1)`: the fetch of its row numbers and its wait, the indirect gather and its wait,
    the write-out and its wait. -/
theorem tile_body (hF : (K (F := F)).Facts) (hI : InRows I) (O : CellTallies nD τ sig (HIx 1)) (W : Waits sig (HIx 1)) (hO : ∀ g, O g none = 0) :
    iprop(levAts (K (F := F)).L (K (F := F)).lev ∗ emp
        ∗ taskIn I Tb O₀ d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L iV (Memref.isWhole_whole _) tV (Memref.isWhole_whole _) oV (Memref.isWhole_whole _)
            sV (Memref.isWhole_whole _) rV (Memref.isWhole_whole _) cc0_scratch2 cc0_scoped0 cc0_scoped1)
          fun _ => iprop(taskOut I Tb d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iV (F := F) d L _ _).symm) $$ Hi
  ihave Ho' := (Entails.of_eq (pts_oRowK (F := F) d L _).symm) $$ Ho
  ihave Ht' := (Entails.of_eq (pts_tV (F := F) d L _ _).symm) $$ Ht
  ihave Hs' := (Entails.of_eq (pts_sV (F := F) d L _).symm) $$ Hs
  ihave Hr' := (Entails.of_eq (pts_rV (F := F) d L _).symm) $$ Hr
  sl_exec
  ihave Hts := (Entails.of_eq (split_tV (F := F) d L _ _)) $$ Ht'
  icases Hts with ⟨Hts, Htr⟩
  ihave Hr'' := (Entails.of_eq (set_rV (F := F) d L _)) $$ Hr'
  ihave Hs'' := (Entails.of_eq (set_sV (F := F) d L _)) $$ Hs'
  iapply (SparseCore.wp_indirectGatherLocal countersEmb 𝒱₀ (V d (cV L) (jV L)) none (hg := gathers_S8192x128_S256x128) (default : HIx 1)
      (rV).view.dmaCredit (row_sum _) rows_numel_pos (list_inb I d L hI fs _ rfl)) $$ [Hts Hr'' Hs'' HsemB]
  · isplitl [Hts]; · iexact Hts
    isplitl [Hr'']; · iexact Hr''
    isplitl [Hs'']; · iexact Hs''
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hts, Hs'⟩, HsemB, HO⟩
  ihave Ht' := (Entails.of_eq (split_tV (F := F) d L _ _).symm) $$ [Hts Htr]
  · isplitl [Hts] <;> iassumption
  ihave Hr3 := (Entails.of_eq (set_rV (F := F) d L _).symm) $$ Hr'
  ihave Hs3 := (Entails.of_eq (set_sV (F := F) d L _).symm) $$ Hs'
  sl_exec
  sl_step
  isplitl [Hi' Ht' Ho']
  · isplitl [Hi']; · iexact Hi'
    isplitl [Ht']; · iexact Ht'
    iapply (Entails.of_eq (rows_eq I Tb d L _ (tile_body.sl.dma0_1 I Tb d L hI fs fr) (fun y => by
      unfold tile_body.sl.dma0_1
      rw [View.read_write_univ]
      exact payload_eq I Tb d L hI fs _ rfl _ y)))
    iexact Ho'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather_body (coordsV c s)
          iV (Memref.isWhole_whole _) tV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hI : InRows I) : (K (F := F)).TileObl (D (F := F)) 𝒱 (P I Tb O₀) v₀ 0 := by
  intro d c i O W hO _ _
  simp only [show (P I Tb O₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body I Tb O₀ d (coordsV ⟨_, hci.1⟩ ⟨_, hci.2⟩) hF hI O W hO).trans (wp_mono frame _ _ fun _ => obl_post)

end Tile

/-! ## The split among tasks and the whole call's operands -/

theorem vecSplit : (K (F := F)).VecSplit' (P I Tb O₀) 0 := by
  intro d c
  show (bigSep Finset.univ fun i => taskIn I Tb O₀ d (tw c i)) ⊢ |={Set.univ}=> iprop((bigSep Finset.univ fun i => taskIn I Tb O₀ d (tw c i))
    ∗ ((bigSep Finset.univ fun i => taskOut I Tb d (tw c i)) -∗ bigSep Finset.univ fun i => taskOut I Tb d (tw c i)))
  iintro H
  imodintro
  isplitl [H]; · iexact H
  iintro H; iexact H

omit [FloatOps F] in
theorem oRowSet_eq (w : Fin 32) : oRowSet w = (orow w).set := by
  show ((View.whole (main_v1_scv : Ref sig .scVector)).slice (orow w)).set = _
  rw [View.set_slice]; exact Finset.map_refl

omit [FloatOps F] in
/-- The output whole is its 32 runs of rows. -/
theorem out_rows (d : Dev nD) (f : Buf (Elt F) (oLoc d)) :
    (oLoc d ↦{fullShare} f : sProp 𝕄) = bigSep Finset.univ fun w : Fin 32 => oRowPts d w f := by
  rw [← pointsTo_biUnion (ℓ := oLoc d) (q := fullShare) (f := f) Finset.univ oRowSet
    (fun w _ w' _ h => by rw [oRowSet_eq, oRowSet_eq]; exact Rect.part_disjoint odiv h)]
  rw [show (Finset.univ : Finset (Fin 32)).biUnion oRowSet = Finset.univ from
    (Finset.biUnion_congr rfl fun w _ => oRowSet_eq w).trans (Rect.biUnion_part odiv)]

omit [FloatOps F] in
/-- The row numbers, the table and the output whole are the 32 tasks' parts. -/
theorem whole_tasks (d : Dev nD) (f : Buf (Elt F) (oLoc d)) :
    (iprop((iLoc d ↦{fullShare} (I d : Buf (Elt F) (iLoc d))) ∗ (tLoc d ↦{fullShare} (Tb d : Buf (Elt F) (tLoc d))) ∗ oLoc d ↦{fullShare} f) : sProp 𝕄)
      = bigSep Finset.univ fun w : Fin 32 => iprop(iShPts I d w ∗ tShPts Tb d w ∗ oRowPts d w f) := by
  rw [bigSep_sep', bigSep_sep', ← out_rows, ← pointsTo_shr, ← pointsTo_shr]

theorem st0_eq (d : Dev nD) :
    (bigSep Finset.univ fun c : Fin ((K (F := F)).nCore 0) => (P I Tb O₀).st 0 d c)
      = (iprop((iLoc d ↦{fullShare} (I d : Buf (Elt F) (iLoc d))) ∗ (tLoc d ↦{fullShare} (Tb d : Buf (Elt F) (tLoc d))) ∗ oLoc d ↦{fullShare} (O₀ d : Buf (Elt F) (oLoc d))) : sProp 𝕄) := by
  rw [whole_tasks, bigSep_tasks]; rfl

theorem dn0_eq (d : Dev nD) :
    (bigSep Finset.univ fun c : Fin ((K (F := F)).nCore 0) => (P I Tb O₀).dn 0 d c)
      = (iprop((iLoc d ↦{fullShare} (I d : Buf (Elt F) (iLoc d))) ∗ (tLoc d ↦{fullShare} (Tb d : Buf (Elt F) (tLoc d))) ∗ oLoc d ↦{fullShare} (gathered I Tb d : Buf (Elt F) (oLoc d))) : sProp 𝕄) := by
  rw [whole_tasks, bigSep_tasks]; rfl

end Cert.Proof.CallIdeal

end
-- ==== Proof.CallRunIdeal.lean ====
/-
  The run of the SparseCore call alone with its host code: the table padded to 128 columns, the call, the first 32
  columns of its rows; to the final contents of every unscoped buffer, at any float instance.
-/
module

public import proofs.«01_k».proof.Proof.CallTaskIdeal
public import Idealize.ShloMosaic.Lib.Pipeline.Frame

@[expose] public section

noncomputable section

namespace Cert.Proof.CallIdeal

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.TcCoe

variable {F : FTy → Type} [FloatOps F]

local notation "𝕄" => MT nD τ sig (HIx 1) (Elt F) ℕ UU ℕ

/-! ## The host operations, before the call and after it -/

/-- The host operations before the SparseCore call: the table padded to 128 columns. -/
def opsB : List (HloOp τ sig (Elt F)) := [
  (StableHlo.nullary main_c (constantI S_ 32 0#32)),
  (StableHlo.TRef.unary (.of main_c : StableHlo.TRef sig ⟨S_, .i32⟩) main_call0.v0 (sitofp .f32)),
  (StableHlo.TRef.binary (.of main_arg1 : StableHlo.TRef sig ⟨S8192x32, .f32⟩) main_call0.v0 main_call0.v1 (fun x v => pad S8192x128 ![0, 0] ![0, 96] ![0, 0] x v pads_S8192x32_S8192x128_000_0960 h_S_))]

theorem opsB_sub : (opsB (F := F)).Forall fun op => op.bufs ⊆ StableHlo.tcRefs τ sig :=
  ⟨StableHlo.nullary_bufs_sub .., StableHlo.unary_bufs_sub .., StableHlo.binary_bufs_sub ..⟩
theorem opsB_fresh : (opsB (F := F)).Forall fun op => op.fresh = ∅ := ⟨rfl, rfl, rfl⟩

/-- The host operation after it: the first 32 columns of the gathered rows. -/
def opsC : List (HloOp τ sig (Elt F)) := [
  (StableHlo.unary main_v1 main_v2 ((extractStridedSlice S8192x32 ![0, 0] · slices_S8192x128_S8192x32_0_0) : (⟨S8192x128, .f32⟩ : BufTy).Contents (Elt F) → (⟨S8192x32, .f32⟩ : BufTy).Contents (Elt F)))]

theorem opsC_sub : (opsC (F := F)).Forall fun op => op.bufs ⊆ StableHlo.tcRefs τ sig := StableHlo.unary_bufs_sub ..
theorem opsC_fresh : (opsC (F := F)).Forall fun op => op.fresh = ∅ := rfl

theorem main_eq (d : Dev nD) : (main (F := F) d)
    = (StableHlo.seq opsB >>= fun _ => sc.run d 0 >>= fun _ => StableHlo.seq opsC >>= fun _ => pure ⟨⟩) := rfl

/-! ## The valuations -/

variable (m : (ℓ : Loc nD τ sig) → Buf (Elt F) ℓ) (ρ : Dev nD → PrngReg)

/-- Before the SparseCore call. -/
def V1 (d : Dev nD) : Valuation τ sig (Elt F) := StableHlo.after opsB fun b => m (d, b)
/-- The indices, the table and the output's contents the SparseCore call starts from. -/
abbrev scI (d : Dev nD) : S8192.Idx → BitVec 32 := V1 m d (main_arg0 : DevRef τ sig)
abbrev scT (d : Dev nD) : S8192x128.Idx → F .f32 := V1 m d (main_v0 : DevRef τ sig)
abbrev scO (d : Dev nD) : S8192x128.Idx → F .f32 := V1 m d (main_v1 : DevRef τ sig)
/-- After the SparseCore call. -/
def V2 (d : Dev nD) : Valuation τ sig (Elt F) := Function.update (V1 m d) (main_v1 : DevRef τ sig) (gathered (scI m) (scT m) d)
/-- At the end. -/
def V3 (d : Dev nD) : Valuation τ sig (Elt F) := StableHlo.after opsC (V2 m d)

/-- The three arrays the SparseCore call works on. -/
abbrev scRefs : Finset (DevRef τ sig) := {(main_arg0 : DevRef τ sig), (main_v0 : DevRef τ sig), (main_v1 : DevRef τ sig)}

theorem scRefs_sub : scRefs ⊆ Pipeline.ucRefs τ sig := by decide

theorem held_scRefs (d : Dev nD) (W : Valuation τ sig (Elt F)) :
    (StableHlo.held (T d) scRefs W : sProp 𝕄)
      = iprop((iLoc d ↦{fullShare} (W (main_arg0 : DevRef τ sig) : Buf (Elt F) (iLoc d))) ∗ (tLoc d ↦{fullShare} (W (main_v0 : DevRef τ sig) : Buf (Elt F) (tLoc d)))
          ∗ oLoc d ↦{fullShare} (W (main_v1 : DevRef τ sig) : Buf (Elt F) (oLoc d))) := by
  unfold StableHlo.held scRefs
  rw [SparseCore.bigSep_insert' (by decide), SparseCore.bigSep_insert' (by decide), bigSep_singleton]

theorem held_rest (d : Dev nD) :
    (StableHlo.held (T d) (Pipeline.ucRefs τ sig \ scRefs) (V1 m d) : sProp 𝕄) = StableHlo.held (T d) (Pipeline.ucRefs τ sig \ scRefs) (V2 m d) :=
  StableHlo.held_congr _ fun b hb => (Function.update_of_ne (fun h => (Finset.mem_sdiff.mp hb).2 (by rw [h]; decide)) _ _).symm

theorem V2_idx (d : Dev nD) : V2 m d (main_arg0 : DevRef τ sig) = scI m d := Function.update_of_ne (by decide) _ _
theorem V2_tab (d : Dev nD) : V2 m d (main_v0 : DevRef τ sig) = scT m d := Function.update_of_ne (by decide) _ _
theorem V2_out (d : Dev nD) : V2 m d (main_v1 : DevRef τ sig) = gathered (scI m) (scT m) d := Function.update_self _ _ _

/-! ## The launch's ghost state -/

def u₀ : UU := (initOf (K (F := F)).hsCells (K (F := F)).hsToks, 1)

theorem emp_family {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (scI m) (scT m) (scO m)).x q thr) := by
  unfold u₀
  iintro Hu
  ihave H := (ownU_pair (initOf (K (F := F)).hsCells (K (F := F)).hsToks) (1 : Counters)) $$ Hu
  icases H with ⟨HH, -⟩
  imodintro
  isplitl [HH]; · iexact HH
  rw [show (bigSep Finset.univ fun thr : Thread nD τ => bigSep Finset.univ fun q : Fin 1 => (P (scI m) (scT m) (scO m)).x q thr) = (bigSep Finset.univ fun _ => iprop(emp) : sProp 𝕄) from
    bigSep_congr fun _ _ => bigSep_univ_of_subsingleton (0 : Fin 1), emp_family, emp_family]
  isplitr <;> iempintro

/-! ## Main on the TensorCore -/

theorem launch_held (d : Dev nD) : (unscopedBufs d (fun b => m ((SparseCore.T d).loc b)) : sProp 𝕄) = StableHlo.held (T d) (Pipeline.ucRefs τ sig) (fun b => m (d, b)) := by
  unfold unscopedBufs StableHlo.held Pipeline.ucRefs StableHlo.tcRefs
  rw [Finset.filter_map, bigSep_map]
  rfl

abbrev FIN (d : Dev nD) : sProp 𝕄 := StableHlo.held (T d) (Pipeline.ucRefs τ sig) (V3 m d)

theorem hmain (κ : GSem nD τ sig → ℕ) (d : Dev nD) :
    iprop((K (F := F)).ctx EH (P (scI m) (scT m) (scO m)) κ ∗ (K (F := F)).tcSt EH d 0 ∗ (K (F := F)).tcRes m ρ d ∗ emp)
      ⊢ wp frame (wpE ((K (F := F)).defs D) 𝒱 (T d) none) Set.univ (main d)
          fun _ => iprop((K (F := F)).tcSt EH d 1 ∗ FIN m d ∗ (K (F := F)).tcEnd d) := by
  unfold SparseCore.Cfg.tcRes SparseCore.Cfg.tcEnd
  rw [main_eq, launch_held]
  iintro ⟨#Hctx, Hst, ⟨Hb, Hheld, Hts, -⟩, -⟩
  iapply (StableHlo.wp_seq 𝒱 none Set.univ d (Pipeline.ucRefs τ sig) _ opsB
    (fun op h => Pipeline.sub_ucRefs op ((List.forall_iff_forall_mem.mp opsB_sub) op h))
    (fun op h => (List.forall_iff_forall_mem.mp opsB_fresh) op h) (fun b => m (d, b))) $$ [Hb Hheld]
  · isplitl [Hb] <;> iassumption
  iintro ⟨Hb, Hheld⟩
  rw [show StableHlo.after opsB (fun b => m (d, b)) = V1 m d from rfl]
  ihave Hheld := (Entails.of_eq (StableHlo.held_sub_split _ scRefs_sub (V1 m d))) $$ Hheld
  icases Hheld with ⟨Hsc, Hrest⟩
  ihave Hsc := (Entails.of_eq (held_scRefs d (V1 m d))) $$ Hsc
  rw [wp_bind]
  iapply ((K (F := F)).wp_run D 𝒱 (EH := EH) (P := P (scI m) (scT m) (scO m)) κ d 0)
  isplitr; · iexact Hctx
  isplitl [Hst]; · iexact Hst
  isplitl [Hsc]
  · rw [st0_eq]; iexact Hsc
  iintro ⟨Hst, Hdn⟩
  ihave Hdn := (Entails.of_eq (dn0_eq (scI m) (scT m) (scO m) d)) $$ Hdn
  ihave Hrest := (Entails.of_eq (held_rest m d)) $$ Hrest
  iapply (StableHlo.wp_seq 𝒱 none Set.univ d (Pipeline.ucRefs τ sig) _ opsC
    (fun op h => Pipeline.sub_ucRefs op ((List.forall_iff_forall_mem.mp opsC_sub) op h))
    (fun op h => (List.forall_iff_forall_mem.mp opsC_fresh) op h) (V2 m d)) $$ [Hb Hdn Hrest]
  · isplitl [Hb]; · iexact Hb
    iapply (Entails.of_eq (StableHlo.held_sub_split _ scRefs_sub (V2 m d)).symm)
    isplitl [Hdn]
    · rw [held_scRefs, V2_idx, V2_tab, V2_out]; iexact Hdn
    iexact Hrest
  iintro ⟨Hb, Hheld⟩
  rw [wp_pure, show StableHlo.after opsC (V2 m d) = V3 m d from rfl]; imodintro
  rw [show (((0 : Fin 1) : ℕ) + 1) = 1 from rfl]
  isplitl [Hst]; · iexact Hst
  isplitl [Hheld]; · iexact Hheld
  isplitl [Hb] <;> iassumption

/-- What the claims read of device `d`'s final state. -/
def fq (d : Dev nD) (s' : Phys nD τ sig (Elt F)) : Prop := ∀ b ∈ Pipeline.ucRefs τ sig, s'.mem.mem (d, b) = V3 m d b

theorem hfin (d : Dev nD) (s' : Phys nD τ sig (Elt F)) : iprop(FIN m d ∗ SI s') ⊢ (⌜fq m d s'⌝ : sProp 𝕄) := by
  iintro ⟨H, HSI⟩
  unfold FIN StableHlo.held
  ihave %h := (SI_pointsTo_bufs_agree (qs := fun _ => fullShare) (Pipeline.ucRefs τ sig)) $$ [HSI H]
  · isplitl [HSI] <;> iassumption
  ipureintro; exact h

/-- The run: every unscoped buffer ends at `V3`, every counter at zero; the indices the SparseCore call reads in range. -/
theorem run_main [∀ e, Nonempty (Elt F e)] (hI : InRows (scI m)) :
    θ_run (Cert.GatherIdeal.defs (F := F)) (Cert.GatherIdeal.threads (F := F)) ⟨m, fun _ => 0, ρ⟩
      (fun r => (∀ d : Dev nD, ∀ b ∈ Pipeline.ucRefs τ sig, r.2.mem (d, b) = V3 m d b) ∧ r.2.sem = fun _ => 0) :=
  SparseCore.Cfg.θ_run_sc_quiescent (K := K (F := F)) (D := D (F := F)) (𝒱 := 𝒱) (EH := EH) (P := P (scI m) (scT m) (scO m)) (A := ∅) scFacts v₀
    (fun q hq => match q with | 0 => nomatch hq)
    (fun q _ => match q with | 0 => tileObl (scI m) (scT m) (scO m) scFacts hI)
    (fun q _ => match q with | 0 => SparseCore.Cfg.VecSplit.of_plain (vecSplit (scI m) (scT m) (scO m)))
    m ρ main (fun _ => iprop(emp)) (FIN m) (u₀ (F := F)) (sep_elim_left.trans (hu₀ m)) (hmain m ρ) (fq m) (hfin m) _ (fun _ h hz => ⟨h, hz⟩)

/-! ## What the call leaves -/

theorem scI_arg (d : Dev nD) : scI m d = m (d, (main_arg0 : DevRef τ sig)) := by
  unfold scI V1 opsB; after_results_simp
/-- The table as the call reads it: padded by the float of zero. -/
theorem scT_pad (d : Dev nD) : scT m d = pad S8192x128 ![0, 0] ![0, 96] ![0, 0] (m (d, (main_arg1 : DevRef τ sig)))
    (sitofp .f32 (constantI S_ 32 0#32)) pads_S8192x32_S8192x128_000_0960 h_S_ := by
  unfold scT V1 opsB; after_results_simp; simp only [StableHlo.TRef.ofBuf_toBuf]; rfl
/-- The result: the first 32 columns of the gathered rows. -/
theorem V3_out (d : Dev nD) : V3 m d (main_v2 : DevRef τ sig)
    = extractStridedSlice S8192x32 ![0, 0] (gathered (scI m) (scT m) d) slices_S8192x128_S8192x32_0_0 := by
  unfold V3 opsC; after_results_simp; rw [V2_out]
theorem V3_arg0 (d : Dev nD) : V3 m d (main_arg0 : DevRef τ sig) = m (d, (main_arg0 : DevRef τ sig)) := by
  unfold V3 opsC; after_results_simp; rw [V2_idx]; exact scI_arg m d
theorem V3_arg1 (d : Dev nD) : V3 m d (main_arg1 : DevRef τ sig) = m (d, (main_arg1 : DevRef τ sig)) := by
  unfold V3 opsC; after_results_simp
  exact (Function.update_of_ne (by decide) _ _).trans (by unfold V1 opsB; after_results_simp)

end Cert.Proof.CallIdeal

end
-- ==== Proof.CallReference.lean ====
/-
  The reference of the SparseCore call alone: the one-hot rows of the row numbers times the table. Its run, and its
  result index by index: row `n` is the table's row of number `n`.
-/
module

public import proofs.«01_k».proof.Proof.Gen.GatherReferenceIdeal
public import proofs.«01_k».proof.Proof.RefIdx

@[expose] public section

noncomputable section

namespace Cert.Proof.CallRef

open Cert.GatherReferenceIdeal Cert.GatherReferenceIdeal.Gen
open Idealize.ShloMosaic hiding ix1 ix2 ix3 ix4 eq_ix1 eq_ix2 eq_ix3 eq_ix4
open Idealize.ShloMosaic.ValueIdx Idealize.ShloMosaic.TcCoe Idealize.SL.Sem

section Run

variable {F : FTy → Type} [FloatOps F]

def ops : List (HloOp τ sig (Elt F)) := [
  (StableHlo.TRef.unary (.of main_arg0 : StableHlo.TRef sig ⟨S8192, .i32⟩) main_call0.v0 (broadcastInDim S8192x1 ![0] bcast_S8192_S8192x1_0)),
  (StableHlo.TRef.nullary main_call0.v1 (iotaInDim S1x8192 32 1)),
  (StableHlo.TRef.unary main_call0.v0 main_call0.v2 (broadcastInDim S8192x8192 ![0, 1] bcast_S8192x1_S8192x8192_0_1)),
  (StableHlo.TRef.unary main_call0.v1 main_call0.v3 (broadcastInDim S8192x8192 ![0, 1] bcast_S1x8192_S8192x8192_0_1)),
  (StableHlo.TRef.binary main_call0.v2 main_call0.v3 main_call0.v4 (cmpi .eq)),
  (StableHlo.TRef.unary main_call0.v4 main_call0.v5 (uitofp .f32)),
  (StableHlo.binary main_v0 main_arg1 main_v1 ((fun l r => Host.dotGeneral dot_S8192x8192_S8192x32_S8192x32_1_0_0_1_n_n none l r) : (⟨S8192x8192, .f32⟩ : BufTy).Contents (Elt F) → (⟨S8192x32, .f32⟩ : BufTy).Contents (Elt F) → (⟨S8192x32, .f32⟩ : BufTy).Contents (Elt F)))]

theorem ops_sub : (ops (F := F)).Forall fun op => op.bufs ⊆ StableHlo.tcRefs τ sig :=
  ⟨StableHlo.unary_bufs_sub .., StableHlo.nullary_bufs_sub .., StableHlo.unary_bufs_sub .., StableHlo.unary_bufs_sub .., StableHlo.binary_bufs_sub ..,
    StableHlo.unary_bufs_sub .., StableHlo.binary_bufs_sub ..⟩
theorem ops_fresh : (ops (F := F)).Forall fun op => op.fresh = ∅ := ⟨rfl, rfl, rfl, rfl, rfl, rfl, rfl⟩

theorem main_eq (d : Dev nD) : main (F := F) d = StableHlo.seq ops := rfl

theorem scopedRefs_eq : (Finset.univ.filter fun b : Ref sig .tc => b.isScoped) = ∅ := by decide
theorem scopedSems_eq : (Finset.univ.filter fun sm : SemLoc sig => sm.isScoped .tc) = ∅ := by decide

variable (m : (ℓ : Loc nD τ sig) → Buf (Elt F) ℓ) (d : Dev nD)

/-- The contents at the end. -/
def U : Valuation τ sig (Elt F) := StableHlo.after ops (StableHlo.launchContents m d)

theorem run_main (ρ : Dev nD → PrngReg) :
    θ_run (defs (F := F)) (onTc (τ := τ) (main (F := F))) ⟨m, fun _ => 0, ρ⟩ fun r =>
      (∀ (d : Dev nD) (b : Ref sig .tc), r.2.mem ((d.tc : Thread nD τ).loc b) = U m d (b : DevRef τ sig)) :=
  StableHlo.run_seq scopedRefs_eq scopedSems_eq defs main (fun _ => ops) main_eq (fun _ => ops_sub) m ρ
    fun _ op hop => List.forall_iff_forall_mem.mp ops_fresh op hop

theorem U_arg0 : U m d (main_arg0 : DevRef τ sig) = m ((d.tc : Thread nD τ).loc main_arg0) := by unfold U ops; after_results_simp
theorem U_arg1 : U m d (main_arg1 : DevRef τ sig) = m ((d.tc : Thread nD τ).loc main_arg1) := by unfold U ops; after_results_simp

end Run

theorem ops_out (V : Valuation τ sig (Elt Ideal)) (I : S8192.Idx → BitVec 32) (B : S8192x32.Idx → EReal)
    (hI : V (main_arg0 : DevRef τ sig) = I) (hB : V (main_arg1 : DevRef τ sig) = B) :
    StableHlo.after ops V (main_v1 : DevRef τ sig)
      = (Host.dotGeneral (F := Ideal) (φ₁ := .f32) (φ₂ := .f32) Cert.ReferenceIdeal.dot_S8192x8192_S8192x32_S8192x32_1_0_0_1_n_n none
          (VQ.R.onehot I) B : S8192x32.Idx → EReal) := by
  subst hI hB; unfold ops; after_results_simp; simp only [StableHlo.TRef.ofBuf_toBuf]; rfl

/-- Row `n` of the result is row `k` of the table, `k` being the `n`th row number. -/
theorem out_apply (V : Valuation τ sig (Elt Ideal)) (I : S8192.Idx → BitVec 32) (B : S8192x32.Idx → EReal)
    (hI : V (main_arg0 : DevRef τ sig) = I) (hB : V (main_arg1 : DevRef τ sig) = B) (n k : Fin 8192) (hk : I (ix1 n) = BitVec.ofNat 32 k.val) (c : Fin 32) :
    (StableHlo.after ops V (main_v1 : DevRef τ sig) : S8192x32.Idx → EReal) (ix2 n c) = B (ix2 k c) :=
  (congrFun (ops_out V I B hI hB) (ix2 n c)).trans (VQ.R.onehot_dot _ B n k (VQ.R.onehot_apply I n k hk) c)

end Cert.Proof.CallRef
-- ==== Proof.InRows.lean ====
/-
  What the precondition of the SparseCore call says: every row number, read as a natural number, is below 8192.
-/
module

public import proofs.«01_k».proof.Pre_in_rows
public import proofs.«01_k».proof.Proof.Finite
public import Idealize.ShloMosaic.Lib.ReduceAll

@[expose] public section

noncomputable section

namespace Cert.Proof.Call

open Idealize.ShloMosaic
open Cert.Pre_in_rows (S8192 S8192x32 S_)

/-- Its side conditions. -/
theorem in_rows_facts : Cert.Pre_in_rows.Facts where
  bcast_S_S8192 := by decide
  reducesTo_S8192_S_d0 := by decide
  h_S_ := by decide

/-- A word that is, signed, at least 0 and below 8192 is below 8192 as a natural number. -/
theorem word_lt (x : BitVec 32) (h0 : IntOp.cmpi .sge x 0#32 = 1#1) (h1 : IntOp.cmpi .slt x 8192#32 = 1#1) : x.toNat < 8192 := by
  have e : ∀ b : Bool, BitVec.ofBool b = 1#1 → b = true := by decide
  have a0 := e _ h0
  have a1 := e _ h1
  rw [BitVec.sle_iff_toInt_le] at a0
  rw [BitVec.slt_iff_toInt_lt] at a1
  simp only [BitVec.toInt_eq_toNat_cond] at a0 a1
  simp at a0 a1
  split at a0 <;> omega

theorem rows_lt [Cert.Pre_in_rows.Facts] {F : FTy → Type} [FloatOps F] (I : S8192.Idx → BitVec 32) (B : FVec F S8192x32 .f32)
    (h : Cert.Pre_in_rows.fn I B = fun _ => 1#1) (j : S8192.Idx) : (I j).toNat < 8192 := by
  haveI : Subsingleton S_.Idx := ⟨fun a b => funext fun x => x.elim0⟩
  have h0 := congrFun h ValueIdx.ix0
  unfold Cert.Pre_in_rows.fn at h0
  obtain ⟨hl, hu⟩ := VQ.andi_one (Host.reduce_andi_all _ _ _ _ _ h0 j)
  exact word_lt _ hl hu

end Cert.Proof.Call
-- ==== Proof.CallValue.lean ====
/-
  The claims of the SparseCore call alone: the frame at the machine's floats and at the ideal ones, the frame of its
  reference, and the equal results.
-/
module

public import proofs.«01_k».proof.Defs
public import proofs.«01_k».proof.Proof.CallRun
public import proofs.«01_k».proof.Proof.CallRunIdeal
public import proofs.«01_k».proof.Proof.CallReference
public import proofs.«01_k».proof.Proof.InRows

@[expose] public section

noncomputable section

namespace Cert.Proof

open Idealize.ShloMosaic hiding ix0 ix1 ix2 ix3 ix4 eq_ix1 eq_ix2 eq_ix3 eq_ix4
open Idealize.ShloMosaic.ValueIdx Idealize.ShloMosaic.TcCoe Idealize.SL.Sem

variable [Cert.Pre_in_rows.Facts]

/-! ## The frames -/

theorem call_inRows (m : (ℓ : Loc Cert.Gather.nD Cert.Gather.τ Cert.Gather.sig) → Buf (Elt Bits) ℓ) (h : Cert.Pre_Gather m) :
    Call.InRows (Call.scI m) := fun d j => by
  rw [Call.scI_arg]; exact Call.rows_lt _ _ (h d) j

theorem callIdeal_inRows (m : (ℓ : Loc Cert.GatherIdeal.nD Cert.GatherIdeal.τ Cert.GatherIdeal.sig) → Buf (Elt Ideal) ℓ) (h : Cert.Pre_GatherIdeal m) :
    CallIdeal.InRows (CallIdeal.scI m) := fun d j => by
  rw [CallIdeal.scI_arg]; exact Call.rows_lt _ _ (h d) j

theorem frame_call : Cert.quiescent_Gather := fun m g hpre =>
  (θ_run Cert.Gather.defs _ _).mono (fun _ h => ⟨fun c => ⟨(h.1 c (Cert.Gather.main_arg0 : DevRef _ _) (by decide)).trans (Call.V3_arg0 m c),
    (h.1 c (Cert.Gather.main_arg1 : DevRef _ _) (by decide)).trans (Call.V3_arg1 m c)⟩, h.2⟩) (Call.run_main m g (call_inRows m hpre))

theorem frame_callIdeal : Cert.quiescent_GatherIdeal := fun m g hpre =>
  (θ_run Cert.GatherIdeal.defs _ _).mono (fun _ h => ⟨fun c => ⟨(h.1 c (Cert.GatherIdeal.main_arg0 : DevRef _ _) (by decide)).trans (CallIdeal.V3_arg0 m c),
    (h.1 c (Cert.GatherIdeal.main_arg1 : DevRef _ _) (by decide)).trans (CallIdeal.V3_arg1 m c)⟩, h.2⟩) (CallIdeal.run_main m g (callIdeal_inRows m hpre))

omit [Cert.Pre_in_rows.Facts] in
theorem frame_callReference : Cert.quiescent_GatherReferenceIdeal := fun m g _ =>
  (θ_run Cert.GatherReferenceIdeal.defs _ _).mono (fun r h => ⟨fun c => ⟨(h c _).trans (CallRef.U_arg0 m c), (h c _).trans (CallRef.U_arg1 m c)⟩,
    sem_eq_zero_of_no_sems (by decide) r.2⟩) (CallRef.run_main m g)

/-- The same under the precondition of the values' claim, which this frame does not need. -/
theorem frame_callReference_in_rows : Cert.quiescent_GatherReferenceIdeal_pre_in_rows := fun m g _ => frame_callReference m g trivial

/-! ## The values -/

section Values

open Cert.GatherIdeal Cert.GatherIdeal.Gen

variable (m : (ℓ : Loc nD τ sig) → Buf (Elt Ideal) ℓ) (d : Dev nD)

abbrev callI : S8192.Idx → BitVec 32 := m ((d.tc : Thread nD τ).loc main_arg0)
abbrev callB : S8192x32.Idx → EReal := m ((d.tc : Thread nD τ).loc main_arg1)

/-- The padded table's first 32 columns are the table. -/
theorem callT_apply (k : Fin 8192) (c : Fin 32) : CallIdeal.scT m d (ix2 k (⟨c.val, by omega⟩ : Fin 128)) = callB m d (ix2 k c) := by
  rw [CallIdeal.scT_pad]
  refine pad_apply_of_inside _ _ _ _ _ _ _ _ _ fun a => ?_
  match a with
  | ⟨0, _⟩ => show k.val = 0 + k.val * (0 + 1); omega
  | ⟨1, _⟩ => show c.val = 0 + c.val * (0 + 1); omega

/-- Row `n` of the call's result is row `k` of the table, `k` being the `n`th row number. -/
theorem call_apply (n k : Fin 8192) (hk : callI m d (ix1 n) = BitVec.ofNat 32 k.val) (c : Fin 32) :
    (CallIdeal.V3 m d (main_v2 : DevRef τ sig) : S8192x32.Idx → EReal) (ix2 n c) = callB m d (ix2 k c) := by
  rw [CallIdeal.V3_out]
  refine (slice2_axis1_apply 0 _ _ _ c (⟨c.val, by omega⟩ : Fin 128) (Nat.zero_add _).symm).trans ?_
  unfold CallIdeal.gathered
  have hi : CallIdeal.scI m d (CallIdeal.iIx n) = BitVec.ofNat 32 k.val :=
    (congrFun (CallIdeal.scI_arg m d) _).trans ((congrArg (callI m d) (eq_ix1 _)).trans hk)
  show CallIdeal.scT m d (CallIdeal.tIx (Fin.ofNat 8192 (CallIdeal.scI m d (CallIdeal.iIx n)).toNat) (⟨c.val, by omega⟩ : Fin 128)) = _
  rw [hi, VQ.toNat_ofNat_fin]
  refine Eq.trans (congrArg (CallIdeal.scT m d) ?_) (callT_apply m d k c)
  refine (eq_ix2 _).trans (congrArg (fun k : Fin 8192 => ix2 k (⟨c.val, by omega⟩ : Fin 128)) (Fin.ext ?_))
  show k.val % 8192 = _
  omega

end Values

theorem call_eq (m : (ℓ : Loc Cert.GatherIdeal.nD Cert.GatherIdeal.τ Cert.GatherIdeal.sig) → Buf (Elt Ideal) ℓ)
    (m' : (ℓ : Loc Cert.GatherReferenceIdeal.nD Cert.GatherReferenceIdeal.τ Cert.GatherReferenceIdeal.sig) → Buf (Elt Ideal) ℓ)
    (c : Dev Cert.GatherIdeal.nD) (hI : ∀ j, (callI m c j).toNat < 8192)
    (h0 : m' ((c.tc : Thread Cert.GatherReferenceIdeal.nD Cert.GatherReferenceIdeal.τ).loc Cert.GatherReferenceIdeal.main_arg0) = callI m c)
    (h1 : m' ((c.tc : Thread Cert.GatherReferenceIdeal.nD Cert.GatherReferenceIdeal.τ).loc Cert.GatherReferenceIdeal.main_arg1) = callB m c) :
    CallRef.U m' c (Cert.GatherReferenceIdeal.main_v1 : DevRef _ _) = CallIdeal.V3 m c (Cert.GatherIdeal.main_v2 : DevRef _ _) := by
  refine funext fun (i : Cert.GatherIdeal.S8192x32.Idx) => ?_
  obtain ⟨n, k, rfl⟩ : ∃ n k, i = ix2 n k := ⟨i 0, i 1, eq_ix2 i⟩
  have hk : callI m c (ix1 n) = BitVec.ofNat 32 ((⟨(callI m c (ix1 n)).toNat, hI _⟩ : Fin 8192)).val := by simp
  exact (CallRef.out_apply _ (callI m c) (callB m c) h0 h1 n _ hk k).trans (call_apply m c n _ hk k).symm

theorem algebraic_call : Cert.algebraic_GatherIdeal_GatherReferenceIdeal := fun m g m' g' hpre hargs =>
  ⟨fun c => CallIdeal.V3 m c (Cert.GatherIdeal.main_v2 : DevRef _ _),
    (θ_run Cert.GatherIdeal.defs _ _).mono (fun _ h c => ⟨h.1 c (Cert.GatherIdeal.main_v2 : DevRef _ _) (by decide),
      (h.1 c (Cert.GatherIdeal.main_arg0 : DevRef _ _) (by decide)).trans (CallIdeal.V3_arg0 m c),
      (h.1 c (Cert.GatherIdeal.main_arg1 : DevRef _ _) (by decide)).trans (CallIdeal.V3_arg1 m c)⟩) (CallIdeal.run_main m g (callIdeal_inRows m hpre)),
    (θ_run Cert.GatherReferenceIdeal.defs _ _).mono (fun _ h c =>
      ⟨(h c _).trans (call_eq m m' c (fun j => Call.rows_lt _ _ (hpre c) j) (hargs c).1 (hargs c).2),
        (h c _).trans (CallRef.U_arg0 m' c), (h c _).trans (CallRef.U_arg1 m' c)⟩) (CallRef.run_main m' g')⟩

end Cert.Proof
-- ==== Proof.lean ====
module

public import proofs.«01_k».proof.Defs
public import proofs.«01_k».proof.Proof.Gen.KernelIdeal
public import proofs.«01_k».proof.Proof.Gen.ReferenceIdeal
public import proofs.«01_k».proof.Proof.Gen.Gather
public import proofs.«01_k».proof.Proof.Gen.GatherIdeal
public import proofs.«01_k».proof.Proof.Gen.GatherReferenceIdeal
public import proofs.«01_k».proof.Proof.Algebraic
public import proofs.«01_k».proof.Proof.CallValue

@[expose] public section

noncomputable section

namespace Cert.Proof

theorem claim : Cert.Claim :=
  haveI := VQ.finite_facts
  haveI := Call.in_rows_facts
  ⟨Cert.KernelIdeal.Gen.facts, Cert.ReferenceIdeal.Gen.facts, Cert.Gather.Gen.facts, Cert.GatherIdeal.Gen.facts, Cert.GatherReferenceIdeal.Gen.facts,
    VQ.finite_facts, Call.in_rows_facts, VQ.frame_kernel, VQ.frame_kernel_finite, VQ.frame_reference, VQ.frame_reference_finite,
    frame_call, frame_callIdeal, frame_callReference, frame_callReference_in_rows, VQ.algebraic, trivial, algebraic_call⟩

end Cert.Proof

end
